-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S64x512 : Shape := ⟨2, ![64, 512]⟩
abbrev S512x512 : Shape := ⟨2, ![512, 512]⟩
abbrev S8x64x512 : Shape := ⟨3, ![8, 64, 512]⟩
abbrev S8 : Shape := ⟨1, ![8]⟩
abbrev S2 : Shape := ⟨1, ![2]⟩
abbrev S_ : Shape := ⟨0, ![]⟩
abbrev S1 : Shape := ⟨1, ![1]⟩
abbrev S64x256 : Shape := ⟨2, ![64, 256]⟩
abbrev S1x64x512 : Shape := ⟨3, ![1, 64, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S64x512, .f32⟩
  | .local _ .vmem, ⟨0, _⟩ => ⟨S64x512, .f32⟩
  | .local _ .vmem, ⟨1, _⟩ => ⟨S512x256, .f32⟩
  | .local _ .vmem, ⟨2, _⟩ => ⟨S256x512, .f32⟩
  | .local _ .vmem, ⟨3, _⟩ => ⟨S512x512, .bf16⟩
  | .local _ .vmem, ⟨4, _⟩ => ⟨S8x64x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 9 19 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_14 : BitVec 32 := 1#32
  let v26 : BitVec 32 := Scalar.muli v14 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v15 : BitVec 32 := Scalar.subi v2 c1_i32_6
  let c8_i32_7 : BitVec 32 := 8#32
  let c0_i32_8 : BitVec 32 := 0#32
  let v16 : BitVec 1 := Scalar.cmpi .eq c8_i32_7 c0_i32_8
  let c1_i32_9 : BitVec 32 := 1#32
  let v17 : BitVec 32 := Scalar.select v16 c1_i32_9 c8_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_17 : BitVec 32 := 1#32
  let v28 : BitVec 32 := Scalar.muli v25 c1_i32_17
  let v29 : BitVec 32 := Scalar.addi c0_i32_18 v28
  v29.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.subi v2 c1_i32_19
  let c8_i32_20 : BitVec 32 := 8#32
  let c0_i32_21 : BitVec 32 := 0#32
  let v31 : BitVec 1 := Scalar.cmpi .eq c8_i32_20 c0_i32_21
  let c1_i32_22 : BitVec 32 := 1#32
  let v32 : BitVec 32 := Scalar.select v31 c1_i32_22 c8_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1_i32_28 : BitVec 32 := 1#32
  let v43 : BitVec 32 := Scalar.muli v40 c1_i32_28
  let v44 : BitVec 32 := Scalar.addi c0_i32_29 v43
  v44.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v45 : BitVec 32 := Scalar.subi v2 c2_i32
  let c8_i32_30 : BitVec 32 := 8#32
  let c0_i32_31 : BitVec 32 := 0#32
  let v46 : BitVec 1 := Scalar.cmpi .eq c8_i32_30 c0_i32_31
  let c1_i32_32 : BitVec 32 := 1#32
  let v47 : BitVec 32 := Scalar.select v46 c1_i32_32 c8_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_38 : BitVec 32 := 1#32
  let v58 : BitVec 32 := Scalar.muli v55 c1_i32_38
  let v59 : BitVec 32 := Scalar.addi c0_i32_39 v58
  v59.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v60 : BitVec 32 := Scalar.subi v2 c3_i32
  let c8_i32_40 : BitVec 32 := 8#32
  let c0_i32_41 : BitVec 32 := 0#32
  let v61 : BitVec 1 := Scalar.cmpi .eq c8_i32_40 c0_i32_41
  let c1_i32_42 : BitVec 32 := 1#32
  let v62 : BitVec 32 := Scalar.select v61 c1_i32_42 c8_i32_40
  let v63 : BitVec 32 := Scalar.remsi v60 v62
  let c0_i32_44 : BitVec 32 := 0#32
  let v65 : BitVec 1 := Scalar.cmpi .slt v63 c0_i32_44
  let c0_i32_45 : BitVec 32 := 0#32
  let v66 : BitVec 1 := Scalar.cmpi .slt v62 c0_i32_45
  let v67 : BitVec 1 := Scalar.xori v65 v66
  let c0_i32_43 : BitVec 32 := 0#32
  let v64 : BitVec 1 := Scalar.cmpi .ne v63 c0_i32_43
  let v68 : BitVec 1 := Scalar.andi v67 v64
  let v69 : BitVec 32 := Scalar.addi v63 v62
  let v70 : BitVec 32 := Scalar.select v68 v69 v63
  let c1_i32_48 : BitVec 32 := 1#32
  let v73 : BitVec 32 := Scalar.muli v70 c1_i32_48
  let v74 : BitVec 32 := Scalar.addi c0_i32_49 v73
  v74.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v75 : BitVec 32 := Scalar.subi v2 c4_i32
  let c8_i32_50 : BitVec 32 := 8#32
  let c0_i32_51 : BitVec 32 := 0#32
  let v76 : BitVec 1 := Scalar.cmpi .eq c8_i32_50 c0_i32_51
  let c1_i32_52 : BitVec 32 := 1#32
  let v77 : BitVec 32 := Scalar.select v76 c1_i32_52 c8_i32_50
  let v78 : BitVec 32 := Scalar.remsi v75 v77
  let c0_i32_54 : BitVec 32 := 0#32
  let v80 : BitVec 1 := Scalar.cmpi .slt v78 c0_i32_54
  let c0_i32_55 : BitVec 32 := 0#32
  let v81 : BitVec 1 := Scalar.cmpi .slt v77 c0_i32_55
  let v82 : BitVec 1 := Scalar.xori v80 v81
  let c0_i32_53 : BitVec 32 := 0#32
  let v79 : BitVec 1 := Scalar.cmpi .ne v78 c0_i32_53
  let v83 : BitVec 1 := Scalar.andi v82 v79
  let v84 : BitVec 32 := Scalar.addi v78 v77
  let v85 : BitVec 32 := Scalar.select v83 v84 v78
  let c1_i32_58 : BitVec 32 := 1#32
  let v88 : BitVec 32 := Scalar.muli v85 c1_i32_58
  let v89 : BitVec 32 := Scalar.addi c0_i32_59 v88
  v89.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v90 : BitVec 32 := Scalar.subi v2 c5_i32
  let c8_i32_60 : BitVec 32 := 8#32
  let c0_i32_61 : BitVec 32 := 0#32
  let v91 : BitVec 1 := Scalar.cmpi .eq c8_i32_60 c0_i32_61
  let c1_i32_62 : BitVec 32 := 1#32
  let v92 : BitVec 32 := Scalar.select v91 c1_i32_62 c8_i32_60
  let v93 : BitVec 32 := Scalar.remsi v90 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  let c1_i32_68 : BitVec 32 := 1#32
  let v103 : BitVec 32 := Scalar.muli v100 c1_i32_68
  let v104 : BitVec 32 := Scalar.addi c0_i32_69 v103
  v104.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v105 : BitVec 32 := Scalar.subi v2 c6_i32
  let c8_i32_70 : BitVec 32 := 8#32
  let c0_i32_71 : BitVec 32 := 0#32
  let v106 : BitVec 1 := Scalar.cmpi .eq c8_i32_70 c0_i32_71
  let c1_i32_72 : BitVec 32 := 1#32
  let v107 : BitVec 32 := Scalar.select v106 c1_i32_72 c8_i32_70
  let v108 : BitVec 32 := Scalar.remsi v105 v107
  let c0_i32_74 : BitVec 32 := 0#32
  let v110 : BitVec 1 := Scalar.cmpi .slt v108 c0_i32_74
  let c0_i32_75 : BitVec 32 := 0#32
  let v111 : BitVec 1 := Scalar.cmpi .slt v107 c0_i32_75
  let v112 : BitVec 1 := Scalar.xori v110 v111
  let c0_i32_73 : BitVec 32 := 0#32
  let v109 : BitVec 1 := Scalar.cmpi .ne v108 c0_i32_73
  let v113 : BitVec 1 := Scalar.andi v112 v109
  let v114 : BitVec 32 := Scalar.addi v108 v107
  let v115 : BitVec 32 := Scalar.select v113 v114 v108
  let c1_i32_78 : BitVec 32 := 1#32
  let v118 : BitVec 32 := Scalar.muli v115 c1_i32_78
  let v119 : BitVec 32 := Scalar.addi c0_i32_79 v118
  v119.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v120 : BitVec 32 := Scalar.subi v2 c7_i32
  let c8_i32_80 : BitVec 32 := 8#32
  let c0_i32_81 : BitVec 32 := 0#32
  let v121 : BitVec 1 := Scalar.cmpi .eq c8_i32_80 c0_i32_81
  let c1_i32_82 : BitVec 32 := 1#32
  let v122 : BitVec 32 := Scalar.select v121 c1_i32_82 c8_i32_80
  let v123 : BitVec 32 := Scalar.remsi v120 v122
  let c0_i32_84 : BitVec 32 := 0#32
  let v125 : BitVec 1 := Scalar.cmpi .slt v123 c0_i32_84
  let c0_i32_85 : BitVec 32 := 0#32
  let v126 : BitVec 1 := Scalar.cmpi .slt v122 c0_i32_85
  let v127 : BitVec 1 := Scalar.xori v125 v126
  let c0_i32_83 : BitVec 32 := 0#32
  let v124 : BitVec 1 := Scalar.cmpi .ne v123 c0_i32_83
  let v128 : BitVec 1 := Scalar.andi v127 v124
  let v129 : BitVec 32 := Scalar.addi v123 v122
  let v130 : BitVec 32 := Scalar.select v128 v129 v123
  let c1_i32_88 : BitVec 32 := 1#32
  let v133 : BitVec 32 := Scalar.muli v130 c1_i32_88
  let v134 : BitVec 32 := Scalar.addi c0_i32_89 v133
  v134.toNat
def k0_off1 (d0 : Dev nD) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_95
  let c8_i32_96 : BitVec 32 := 8#32
  let c0_i32_97 : BitVec 32 := 0#32
  let v146 : BitVec 1 := Scalar.cmpi .eq c8_i32_96 c0_i32_97
  let c1_i32_98 : BitVec 32 := 1#32
  let v147 : BitVec 32 := Scalar.select v146 c1_i32_98 c8_i32_96
  let v148 : BitVec 32 := Scalar.remsi v145 v147
  let c0_i32_100 : BitVec 32 := 0#32
  let v150 : BitVec 1 := Scalar.cmpi .slt v148 c0_i32_100
  let c0_i32_101 : BitVec 32 := 0#32
  let v151 : BitVec 1 := Scalar.cmpi .slt v147 c0_i32_101
  let v152 : BitVec 1 := Scalar.xori v150 v151
  let c0_i32_99 : BitVec 32 := 0#32
  let v149 : BitVec 1 := Scalar.cmpi .ne v148 c0_i32_99
  let v153 : BitVec 1 := Scalar.andi v152 v149
  let v154 : BitVec 32 := Scalar.addi v148 v147
  let v155 : BitVec 32 := Scalar.select v153 v154 v148
  let c64_i32 : BitVec 32 := 64#32
  let v156 : BitVec 32 := Scalar.muli v155 c64_i32
  let v157 : Index := Scalar.indexCast v156
  let c0_102 : Index := 0#32
  ![v157.toNat, 0]
def k0_off2 (d0 : Dev nD) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_95
  let c8_i32_96 : BitVec 32 := 8#32
  let c0_i32_97 : BitVec 32 := 0#32
  let v146 : BitVec 1 := Scalar.cmpi .eq c8_i32_96 c0_i32_97
  let c1_i32_98 : BitVec 32 := 1#32
  let v147 : BitVec 32 := Scalar.select v146 c1_i32_98 c8_i32_96
  let v148 : BitVec 32 := Scalar.remsi v145 v147
  let c0_i32_100 : BitVec 32 := 0#32
  let v150 : BitVec 1 := Scalar.cmpi .slt v148 c0_i32_100
  let c0_i32_101 : BitVec 32 := 0#32
  let v151 : BitVec 1 := Scalar.cmpi .slt v147 c0_i32_101
  let v152 : BitVec 1 := Scalar.xori v150 v151
  let c0_i32_99 : BitVec 32 := 0#32
  let v149 : BitVec 1 := Scalar.cmpi .ne v148 c0_i32_99
  let v153 : BitVec 1 := Scalar.andi v152 v149
  let v154 : BitVec 32 := Scalar.addi v148 v147
  let v155 : BitVec 32 := Scalar.select v153 v154 v148
  let c64_i32 : BitVec 32 := 64#32
  let v156 : BitVec 32 := Scalar.muli v155 c64_i32
  let v162 : Index := Scalar.indexCast v156
  let c0_103 : Index := 0#32
  ![v162.toNat, 0]
def k0_off3 (d0 : Dev nD) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.addi v2 c1_i32_95
  let c8_i32_96 : BitVec 32 := 8#32
  let c0_i32_97 : BitVec 32 := 0#32
  let v146 : BitVec 1 := Scalar.cmpi .eq c8_i32_96 c0_i32_97
  let c1_i32_98 : BitVec 32 := 1#32
  let v147 : BitVec 32 := Scalar.select v146 c1_i32_98 c8_i32_96
  let v148 : BitVec 32 := Scalar.remsi v145 v147
  let c0_i32_100 : BitVec 32 := 0#32
  let v150 : BitVec 1 := Scalar.cmpi .slt v148 c0_i32_100
  let c0_i32_101 : BitVec 32 := 0#32
  let v151 : BitVec 1 := Scalar.cmpi .slt v147 c0_i32_101
  let v152 : BitVec 1 := Scalar.xori v150 v151
  let c0_i32_99 : BitVec 32 := 0#32
  let v149 : BitVec 1 := Scalar.cmpi .ne v148 c0_i32_99
  let v153 : BitVec 1 := Scalar.andi v152 v149
  let v154 : BitVec 32 := Scalar.addi v148 v147
  let v155 : BitVec 32 := Scalar.select v153 v154 v148
  let c64_i32 : BitVec 32 := 64#32
  let v156 : BitVec 32 := Scalar.muli v155 c64_i32
  let c0_i32_113 : BitVec 32 := 0#32
  ![v156.toNat, 0]
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v145 : BitVec 32 := Scalar.addi v2 c1_i32_95
  let c8_i32_96 : BitVec 32 := 8#32
  let c0_i32_97 : BitVec 32 := 0#32
  let v146 : BitVec 1 := Scalar.cmpi .eq c8_i32_96 c0_i32_97
  let c1_i32_98 : BitVec 32 := 1#32
  let v147 : BitVec 32 := Scalar.select v146 c1_i32_98 c8_i32_96
  let v148 : BitVec 32 := Scalar.remsi v145 v147
  let c0_i32_100 : BitVec 32 := 0#32
  let v150 : BitVec 1 := Scalar.cmpi .slt v148 c0_i32_100
  let c0_i32_101 : BitVec 32 := 0#32
  let v151 : BitVec 1 := Scalar.cmpi .slt v147 c0_i32_101
  let v152 : BitVec 1 := Scalar.xori v150 v151
  let c0_i32_99 : BitVec 32 := 0#32
  let v149 : BitVec 1 := Scalar.cmpi .ne v148 c0_i32_99
  let v153 : BitVec 1 := Scalar.andi v152 v149
  let v154 : BitVec 32 := Scalar.addi v148 v147
  let v155 : BitVec 32 := Scalar.select v153 v154 v148
  let c1_i32_109 : BitVec 32 := 1#32
  let v168 : BitVec 32 := Scalar.muli v155 c1_i32_109
  let v169 : BitVec 32 := Scalar.addi c0_i32_110 v168
  v169.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_114 : BitVec 32 := 2#32
  let v177 : BitVec 32 := Scalar.addi v2 c2_i32_114
  let c8_i32_115 : BitVec 32 := 8#32
  let c0_i32_116 : BitVec 32 := 0#32
  let v178 : BitVec 1 := Scalar.cmpi .eq c8_i32_115 c0_i32_116
  let c1_i32_117 : BitVec 32 := 1#32
  let v179 : BitVec 32 := Scalar.select v178 c1_i32_117 c8_i32_115
  let v180 : BitVec 32 := Scalar.remsi v177 v179
  let c0_i32_119 : BitVec 32 := 0#32
  let v182 : BitVec 1 := Scalar.cmpi .slt v180 c0_i32_119
  let c0_i32_120 : BitVec 32 := 0#32
  let v183 : BitVec 1 := Scalar.cmpi .slt v179 c0_i32_120
  let v184 : BitVec 1 := Scalar.xori v182 v183
  let c0_i32_118 : BitVec 32 := 0#32
  let v181 : BitVec 1 := Scalar.cmpi .ne v180 c0_i32_118
  let v185 : BitVec 1 := Scalar.andi v184 v181
  let v186 : BitVec 32 := Scalar.addi v180 v179
  let v187 : BitVec 32 := Scalar.select v185 v186 v180
  let c1_i32_131 : BitVec 32 := 1#32
  let v200 : BitVec 32 := Scalar.muli v187 c1_i32_131
  let v201 : BitVec 32 := Scalar.addi c0_i32_132 v200
  v201.toNat
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_136 : BitVec 32 := 3#32
  let v209 : BitVec 32 := Scalar.addi v2 c3_i32_136
  let c8_i32_137 : BitVec 32 := 8#32
  let c0_i32_138 : BitVec 32 := 0#32
  let v210 : BitVec 1 := Scalar.cmpi .eq c8_i32_137 c0_i32_138
  let c1_i32_139 : BitVec 32 := 1#32
  let v211 : BitVec 32 := Scalar.select v210 c1_i32_139 c8_i32_137
  let v212 : BitVec 32 := Scalar.remsi v209 v211
  let c0_i32_141 : BitVec 32 := 0#32
  let v214 : BitVec 1 := Scalar.cmpi .slt v212 c0_i32_141
  let c0_i32_142 : BitVec 32 := 0#32
  let v215 : BitVec 1 := Scalar.cmpi .slt v211 c0_i32_142
  let v216 : BitVec 1 := Scalar.xori v214 v215
  let c0_i32_140 : BitVec 32 := 0#32
  let v213 : BitVec 1 := Scalar.cmpi .ne v212 c0_i32_140
  let v217 : BitVec 1 := Scalar.andi v216 v213
  let v218 : BitVec 32 := Scalar.addi v212 v211
  let v219 : BitVec 32 := Scalar.select v217 v218 v212
  let c1_i32_153 : BitVec 32 := 1#32
  let v232 : BitVec 32 := Scalar.muli v219 c1_i32_153
  let v233 : BitVec 32 := Scalar.addi c0_i32_154 v232
  v233.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_158 : BitVec 32 := 4#32
  let v241 : BitVec 32 := Scalar.addi v2 c4_i32_158
  let c8_i32_159 : BitVec 32 := 8#32
  let c0_i32_160 : BitVec 32 := 0#32
  let v242 : BitVec 1 := Scalar.cmpi .eq c8_i32_159 c0_i32_160
  let c1_i32_161 : BitVec 32 := 1#32
  let v243 : BitVec 32 := Scalar.select v242 c1_i32_161 c8_i32_159
  let v244 : BitVec 32 := Scalar.remsi v241 v243
  let c0_i32_163 : BitVec 32 := 0#32
  let v246 : BitVec 1 := Scalar.cmpi .slt v244 c0_i32_163
  let c0_i32_164 : BitVec 32 := 0#32
  let v247 : BitVec 1 := Scalar.cmpi .slt v243 c0_i32_164
  let v248 : BitVec 1 := Scalar.xori v246 v247
  let c0_i32_162 : BitVec 32 := 0#32
  let v245 : BitVec 1 := Scalar.cmpi .ne v244 c0_i32_162
  let v249 : BitVec 1 := Scalar.andi v248 v245
  let v250 : BitVec 32 := Scalar.addi v244 v243
  let v251 : BitVec 32 := Scalar.select v249 v250 v244
  let c1_i32_175 : BitVec 32 := 1#32
  let v264 : BitVec 32 := Scalar.muli v251 c1_i32_175
  let v265 : BitVec 32 := Scalar.addi c0_i32_176 v264
  v265.toNat
def k0_dev14 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v273 : BitVec 32 := Scalar.addi v2 c5_i32_180
  let c8_i32_181 : BitVec 32 := 8#32
  let c0_i32_182 : BitVec 32 := 0#32
  let v274 : BitVec 1 := Scalar.cmpi .eq c8_i32_181 c0_i32_182
  let c1_i32_183 : BitVec 32 := 1#32
  let v275 : BitVec 32 := Scalar.select v274 c1_i32_183 c8_i32_181
  let v276 : BitVec 32 := Scalar.remsi v273 v275
  let c0_i32_185 : BitVec 32 := 0#32
  let v278 : BitVec 1 := Scalar.cmpi .slt v276 c0_i32_185
  let c0_i32_186 : BitVec 32 := 0#32
  let v279 : BitVec 1 := Scalar.cmpi .slt v275 c0_i32_186
  let v280 : BitVec 1 := Scalar.xori v278 v279
  let c0_i32_184 : BitVec 32 := 0#32
  let v277 : BitVec 1 := Scalar.cmpi .ne v276 c0_i32_184
  let v281 : BitVec 1 := Scalar.andi v280 v277
  let v282 : BitVec 32 := Scalar.addi v276 v275
  let v283 : BitVec 32 := Scalar.select v281 v282 v276
  let c1_i32_197 : BitVec 32 := 1#32
  let v296 : BitVec 32 := Scalar.muli v283 c1_i32_197
  let v297 : BitVec 32 := Scalar.addi c0_i32_198 v296
  v297.toNat
def k0_dev15 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_202 : BitVec 32 := 6#32
  let v305 : BitVec 32 := Scalar.addi v2 c6_i32_202
  let c8_i32_203 : BitVec 32 := 8#32
  let c0_i32_204 : BitVec 32 := 0#32
  let v306 : BitVec 1 := Scalar.cmpi .eq c8_i32_203 c0_i32_204
  let c1_i32_205 : BitVec 32 := 1#32
  let v307 : BitVec 32 := Scalar.select v306 c1_i32_205 c8_i32_203
  let v308 : BitVec 32 := Scalar.remsi v305 v307
  let c0_i32_207 : BitVec 32 := 0#32
  let v310 : BitVec 1 := Scalar.cmpi .slt v308 c0_i32_207
  let c0_i32_208 : BitVec 32 := 0#32
  let v311 : BitVec 1 := Scalar.cmpi .slt v307 c0_i32_208
  let v312 : BitVec 1 := Scalar.xori v310 v311
  let c0_i32_206 : BitVec 32 := 0#32
  let v309 : BitVec 1 := Scalar.cmpi .ne v308 c0_i32_206
  let v313 : BitVec 1 := Scalar.andi v312 v309
  let v314 : BitVec 32 := Scalar.addi v308 v307
  let v315 : BitVec 32 := Scalar.select v313 v314 v308
  let c1_i32_219 : BitVec 32 := 1#32
  let v328 : BitVec 32 := Scalar.muli v315 c1_i32_219
  let v329 : BitVec 32 := Scalar.addi c0_i32_220 v328
  v329.toNat
def k0_dev16 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_224 : BitVec 32 := 7#32
  let v337 : BitVec 32 := Scalar.addi v2 c7_i32_224
  let c8_i32_225 : BitVec 32 := 8#32
  let c0_i32_226 : BitVec 32 := 0#32
  let v338 : BitVec 1 := Scalar.cmpi .eq c8_i32_225 c0_i32_226
  let c1_i32_227 : BitVec 32 := 1#32
  let v339 : BitVec 32 := Scalar.select v338 c1_i32_227 c8_i32_225
  let v340 : BitVec 32 := Scalar.remsi v337 v339
  let c0_i32_229 : BitVec 32 := 0#32
  let v342 : BitVec 1 := Scalar.cmpi .slt v340 c0_i32_229
  let c0_i32_230 : BitVec 32 := 0#32
  let v343 : BitVec 1 := Scalar.cmpi .slt v339 c0_i32_230
  let v344 : BitVec 1 := Scalar.xori v342 v343
  let c0_i32_228 : BitVec 32 := 0#32
  let v341 : BitVec 1 := Scalar.cmpi .ne v340 c0_i32_228
  let v345 : BitVec 1 := Scalar.andi v344 v341
  let v346 : BitVec 32 := Scalar.addi v340 v339
  let v347 : BitVec 32 := Scalar.select v345 v346 v340
  let c1_i32_241 : BitVec 32 := 1#32
  let v360 : BitVec 32 := Scalar.muli v347 c1_i32_241
  let v361 : BitVec 32 := Scalar.addi c0_i32_242 v360
  v361.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_246 : BitVec 32 := 64#32
  let v369 : BitVec 32 := Scalar.muli v2 c64_i32_246
  let v370 : Index := Scalar.indexCast v369
  let c0_247 : Index := 0#32
  ![v370.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_246 : BitVec 32 := 64#32
  let v369 : BitVec 32 := Scalar.muli v2 c64_i32_246
  let v375 : Index := Scalar.indexCast v369
  let c0_249 : Index := 0#32
  ![v375.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Protocol.lean ====
/-
# `Protocol`: the cells, the schedule and the levels of the reduce-scattered product

Device `c` computes, for every other device, the product of that device's rows of its own block of `A` with its own
block of `B`, and copies it to that device; it then adds the seven products it is sent to its own. Distances around
the ring of eight are `r + 1` for `r : Fin 7`: `up c r` is the device `r + 1` ahead of `c`, `dn c r` the one behind.

Every semaphore of the kernel is a cell of ONE round (`sched`):
* the runtime's barrier: two duties of one unit, one from each neighbour, carrying nothing;
* `ready r` of `c`, paid by `up c r`: it carries slot `r + 1` of `up c r`'s landing buffer and that `up c r`'s receive
  cell `r` is open — what `c`'s copy to `up c r` needs;
* `recv r` of `c`, paid by the copy of `dn c r`: the slot back, holding the product `dn c r` computed for `c`;
* `send r` of `c`, paid by `c`'s own copy: the rows of the product buffer it read;
* the two copies of `A` and `B` into vector memory: the copied buffer and its source.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's component and the protocol's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The device `r + 1` ahead of `c`. -/
def up (c : Dev nD) (r : Fin 7) : Dev nD := ⟨(c.val + (r.val + 1)) % 8, Nat.mod_lt _ (by decide)⟩
set_option backward.proofsInPublic true in
/-- The device `r + 1` behind `c`. -/
def dn (c : Dev nD) (r : Fin 7) : Dev nD := ⟨(c.val + (7 - r.val)) % 8, Nat.mod_lt _ (by decide)⟩

theorem up_dn (c : Dev nD) (r : Fin 7) : up (dn c r) r = c := by revert c r; decide +kernel
theorem dn_up (c : Dev nD) (r : Fin 7) : dn (up c r) r = c := by revert c r; decide +kernel

/-- Going `r + 1` ahead, as a permutation of the devices. -/
def turn (r : Fin 7) : Dev nD ≃ Dev nD := ⟨fun c => up c r, fun c => dn c r, fun c => dn_up c r, fun c => up_dn c r⟩

/-- The devices the kernel names: the barrier signals go to the two neighbours, -/
theorem dev1_eq (c : Dev nD) : (⟨k0_dev1 c, k0_dev1_lt c⟩ : Dev nD) = up c 0 := by revert c; decide +kernel
theorem dev2_eq (c : Dev nD) : (⟨k0_dev2 c, k0_dev2_lt c⟩ : Dev nD) = dn c 0 := by revert c; decide +kernel
/-- the ready signals to the devices behind, -/
theorem dev3_eq (c : Dev nD) : (⟨k0_dev3 c, k0_dev3_lt c⟩ : Dev nD) = dn c 0 := by revert c; decide +kernel
theorem dev4_eq (c : Dev nD) : (⟨k0_dev4 c, k0_dev4_lt c⟩ : Dev nD) = dn c 1 := by revert c; decide +kernel
theorem dev5_eq (c : Dev nD) : (⟨k0_dev5 c, k0_dev5_lt c⟩ : Dev nD) = dn c 2 := by revert c; decide +kernel
theorem dev6_eq (c : Dev nD) : (⟨k0_dev6 c, k0_dev6_lt c⟩ : Dev nD) = dn c 3 := by revert c; decide +kernel
theorem dev7_eq (c : Dev nD) : (⟨k0_dev7 c, k0_dev7_lt c⟩ : Dev nD) = dn c 4 := by revert c; decide +kernel
theorem dev8_eq (c : Dev nD) : (⟨k0_dev8 c, k0_dev8_lt c⟩ : Dev nD) = dn c 5 := by revert c; decide +kernel
theorem dev9_eq (c : Dev nD) : (⟨k0_dev9 c, k0_dev9_lt c⟩ : Dev nD) = dn c 6 := by revert c; decide +kernel
/-- the copies to the devices ahead. -/
theorem dev10_eq (c : Dev nD) : (⟨k0_dev10 c, k0_dev10_lt c⟩ : Dev nD) = up c 0 := by revert c; decide +kernel
theorem dev11_eq (c : Dev nD) : (⟨k0_dev11 c, k0_dev11_lt c⟩ : Dev nD) = up c 1 := by revert c; decide +kernel
theorem dev12_eq (c : Dev nD) : (⟨k0_dev12 c, k0_dev12_lt c⟩ : Dev nD) = up c 2 := by revert c; decide +kernel
theorem dev13_eq (c : Dev nD) : (⟨k0_dev13 c, k0_dev13_lt c⟩ : Dev nD) = up c 3 := by revert c; decide +kernel
theorem dev14_eq (c : Dev nD) : (⟨k0_dev14 c, k0_dev14_lt c⟩ : Dev nD) = up c 4 := by revert c; decide +kernel
theorem dev15_eq (c : Dev nD) : (⟨k0_dev15 c, k0_dev15_lt c⟩ : Dev nD) = up c 5 := by revert c; decide +kernel
theorem dev16_eq (c : Dev nD) : (⟨k0_dev16 c, k0_dev16_lt c⟩ : Dev nD) = up c 6 := by revert c; decide +kernel

/-- The rows for distance `r + 1` start at 64 times the device they are for. -/
theorem off1_eq (c : Dev nD) (r : Fin 7) : k0_off1 c (BitVec.ofNat 32 (1 + r.val)) = ![64 * (up c r).val, 0] := by
  revert c r; decide +kernel
theorem off3_eq (c : Dev nD) (r : Fin 7) : k0_off3 c (BitVec.ofNat 32 (1 + r.val)) = ![64 * (up c r).val, 0] := by
  revert c r; decide +kernel

/-! ## The memrefs -/

abbrev xA : Memref sig .tc .hbm S512x256 .f32 := Memref.whole main_arg0
abbrev xB : Memref sig .tc .hbm S256x512 .f32 := Memref.whole main_arg1
abbrev oM : Memref sig .tc .vmem S64x512 .f32 := Memref.whole cc0_stg0_0
abbrev aM : Memref sig .tc .vmem S512x256 .f32 := Memref.whole cc0_scratch0
abbrev bM : Memref sig .tc .vmem S256x512 .f32 := Memref.whole cc0_scratch1
abbrev pM : Memref sig .tc .vmem S512x512 .bf16 := Memref.whole cc0_scratch2
abbrev cM : Memref sig .tc .vmem S8x64x512 .bf16 := Memref.whole cc0_scratch3

theorem slot_inb (k : Fin 8) : ∀ a, (![k.val, 0, 0] : Fin 3 → ℕ) a + S1x64x512.size a ≤ S8x64x512.size a := by
  revert k; decide

/-- Slot `k` of the landing buffer, as a rectangle of it and as the 64 × 512 block a copy lands in. -/
abbrev slotRect (k : Fin 8) : Rect S8x64x512 := Rect.unit (s := S8x64x512) ![k.val, 0, 0] S1x64x512.size (slot_inb k)
abbrev slotM (k : Fin 8) : Memref sig .tc .vmem S64x512 .bf16 :=
  (cM.slice (slotRect k) (fun _ => rfl)).squeeze S64x512 squeezes_S1x64x512_S64x512

/-- The rows of `A` for the device `r + 1` ahead, and the rows of the product buffer their product goes to. -/
abbrev aRect (c : Dev nD) (r : Fin 7) : Rect S512x256 :=
  Rect.unit (s := S512x256) (k0_off1 c (BitVec.ofNat 32 (1 + r.val))) S64x256.size (k0_off1_inb c r)
abbrev pRect (c : Dev nD) (r : Fin 7) : Rect S512x512 :=
  Rect.unit (s := S512x512) (k0_off3 c (BitVec.ofNat 32 (1 + r.val))) S64x512.size (k0_off3_inb c r)
abbrev pRow (c : Dev nD) (r : Fin 7) : Memref sig .tc .vmem S64x512 .bf16 := pM.slice (pRect c r) (fun _ => rfl)

/-- The device's own rows of `A` and of the product buffer. -/
abbrev aOwn (c : Dev nD) : Rect S512x256 := Rect.unit (s := S512x256) (k0_off4 c) S64x256.size (k0_off4_inb c)
abbrev pOwnRect (c : Dev nD) : Rect S512x512 := Rect.unit (s := S512x512) (k0_off5 c) S64x512.size (k0_off5_inb c)
abbrev pOwn (c : Dev nD) : Memref sig .tc .vmem S64x512 .bf16 := pM.slice (pOwnRect c) (fun _ => rfl)

/-! ## The cells -/

set_option backward.proofsInPublic true in
def barS : Sem sig := ⟨8, by decide⟩
set_option backward.proofsInPublic true in
def readyS (r : Fin 7) : Sem sig := ⟨r.val + 1, Nat.lt_of_lt_of_le (Nat.succ_lt_succ r.isLt) (by decide)⟩
set_option backward.proofsInPublic true in
def sendS (r : Fin 7) : DmaSem sig := ⟨r.val + 2, Nat.lt_of_lt_of_le (Nat.add_lt_add_right r.isLt 2) (by decide)⟩
set_option backward.proofsInPublic true in
def recvS (r : Fin 7) : DmaSem sig := ⟨r.val + 10, Nat.lt_of_lt_of_le (Nat.add_lt_add_right r.isLt 10) (by decide)⟩
set_option backward.proofsInPublic true in
def inAS : DmaSem sig := ⟨17, by decide⟩
set_option backward.proofsInPublic true in
def inBS : DmaSem sig := ⟨18, by decide⟩

theorem barS_eq : (SemArray.scalar (sig.barrier 0 rfl) : Sems sig S_).sem = barS := rfl

abbrev barCell (c : Dev nD) : GSem nD τ sig := ((c : Thread nD τ), .reg barS)
abbrev readyCell (c : Dev nD) (r : Fin 7) : GSem nD τ sig := ((c : Thread nD τ), .reg (readyS r))
abbrev sendCell (c : Dev nD) (r : Fin 7) : GSem nD τ sig := ((c : Thread nD τ), .dma (sendS r))
abbrev recvCell (c : Dev nD) (r : Fin 7) : GSem nD τ sig := ((c : Thread nD τ), .dma (recvS r))
abbrev inACell (c : Dev nD) : GSem nD τ sig := ((c : Thread nD τ), .dma inAS)
abbrev inBCell (c : Dev nD) : GSem nD τ sig := ((c : Thread nD τ), .dma inBS)

/-- The credit of a 64 × 512 block of the narrow format, and of the whole blocks of `A` and `B`. -/
abbrev N : ℕ := (slotM 1).view.dmaCredit
abbrev NA : ℕ := aM.view.dmaCredit
abbrev NB : ℕ := bM.view.dmaCredit
theorem N_pos : 0 < N := View.dmaCredit_pos _ (by decide)
theorem NA_pos : 0 < NA := View.dmaCredit_pos _ (by decide)
theorem NB_pos : 0 < NB := View.dmaCredit_pos _ (by decide)

/-! ## Contents -/

/-- The device's blocks of `A` and `B` as launched. -/
def aIn (c : Dev nD) : (cc0_scratch0 : Ref sig .tc).ty.Contents (Elt F) := m ((c : Thread nD τ).loc main_arg0)
def bIn (c : Dev nD) : (cc0_scratch1 : Ref sig .tc).ty.Contents (Elt F) := m ((c : Thread nD τ).loc main_arg1)

/-- The product device `s` computes for the device `r + 1` ahead, and the one it computes for itself. -/
def part (s : Dev nD) (r : Fin 7) : FVec F S64x512 .bf16 :=
  k0_pay3 (k0_pay1 (bIn m s)) ((aM.access (aRect s r)).read (Elt F) (aIn m s))
def ownPart (s : Dev nD) : FVec F S64x512 .bf16 :=
  k0_pay3 (k0_pay1 (bIn m s)) ((aM.access (aOwn s)).read (Elt F) (aIn m s))

/-! ## The schedule -/

/-- The rows of the product buffer for distance `r + 1`, at any contents; slot `k` of the landing buffer, at any. -/
def rowAny (c : Dev nD) (r : Fin 7) : sProp 𝕄 := iprop(∃ f, (pRow c r).view.loc (c : Thread nD τ) ↦[(pRow c r).view.set]{fullShare} f)
def slotAny (c : Dev nD) (k : Fin 8) : sProp 𝕄 := iprop(∃ f, (slotM k).view.loc (c : Thread nD τ) ↦[(slotM k).view.set]{fullShare} f)

/-- What the ready signal from `up c r` hands `c`: the slot of `up c r` that `c`'s copy lands in, open to be landed in. -/
def readyPay (c : Dev nD) (r : Fin 7) : sProp 𝕄 := iprop(slotAny (up c r) r.succ ∗ reached ER (recvCell (up c r) r) 0)
/-- What a landed copy hands its target: its slot, holding the product the sender computed for it. -/
def recvPay (c : Dev nD) (r : Fin 7) : sProp 𝕄 := owns (c : Thread nD τ) (slotM r.succ) fullShare (part m (dn c r) r)
/-- What the copies of `A` and `B` into vector memory hand back: the buffer filled, and its source. -/
def inAPay (c : Dev nD) : sProp 𝕄 :=
  iprop(((c : Thread nD τ).loc cc0_scratch0 ↦{fullShare} aIn m c) ∗ ((c : Thread nD τ).loc main_arg0 ↦{fullShare} m ((c : Thread nD τ).loc main_arg0)))
def inBPay (c : Dev nD) : sProp 𝕄 :=
  iprop(((c : Thread nD τ).loc cc0_scratch1 ↦{fullShare} bIn m c) ∗ ((c : Thread nD τ).loc main_arg1 ↦{fullShare} m ((c : Thread nD τ).loc main_arg1)))

omit [FloatOps F] in
instance rowAny_storable (c : Dev nD) (r) : BI.Storable (upEmb : UEmb _ 𝕄) (rowAny (F := F) c r) := by unfold rowAny; infer_instance
omit [FloatOps F] in
instance slotAny_storable (c : Dev nD) (k) : BI.Storable (upEmb : UEmb _ 𝕄) (slotAny (F := F) c k) := by unfold slotAny; infer_instance
omit [FloatOps F] in
instance readyPay_storable (c : Dev nD) (r) : BI.Storable (upEmb : UEmb _ 𝕄) (readyPay (F := F) c r) := by unfold readyPay; infer_instance
instance recvPay_storable (c : Dev nD) (r) : BI.Storable (upEmb : UEmb _ 𝕄) (recvPay (F := F) m c r) := by unfold recvPay; infer_instance
omit [FloatOps F] in
instance inAPay_storable (c : Dev nD) : BI.Storable (upEmb : UEmb _ 𝕄) (inAPay (F := F) m c) := by unfold inAPay; infer_instance
omit [FloatOps F] in
instance inBPay_storable (c : Dev nD) : BI.Storable (upEmb : UEmb _ 𝕄) (inBPay (F := F) m c) := by unfold inBPay; infer_instance

/-- The duties of a semaphore's one round: two for the barrier, none for the entries at index 0 that nothing uses and
    for the staging semaphore, one for every other. -/
def dutiesOf : SemLoc sig → Finset Bool
  | .reg q => if q.val = 8 then Finset.univ else if q.val = 0 then ∅ else {false}
  | .dma q => if q.val = 0 ∨ q.val = 1 ∨ q.val = 9 then ∅ else {false}
/-- The units of a duty. -/
def amountOf : SemLoc sig → ℕ
  | .reg _ => 1
  | .dma q => if q.val = 17 then NA else if q.val = 18 then NB else N
/-- What a duty of device `c`'s semaphore carries. -/
def payOf (c : Dev nD) : SemLoc sig → sProp 𝕄
  | .reg q => if h : 1 ≤ q.val ∧ q.val < 8 then readyPay c ⟨q.val - 1, by omega⟩ else iprop(emp)
  | .dma q =>
    if h : 2 ≤ q.val ∧ q.val < 9 then rowAny c ⟨q.val - 2, by omega⟩
    else if h : 10 ≤ q.val ∧ q.val < 17 then recvPay m c ⟨q.val - 10, by omega⟩
    else if q.val = 17 then inAPay m c
    else if q.val = 18 then inBPay m c
    else iprop(emp)

/-- Every TensorCore semaphore has one round, round 0. -/
def sched : Rounds.Schedule (GSem nD τ sig) Bool 𝕄 where
  duties g r := if r = 0 ∧ g.1.2 = .tc then dutiesOf g.2 else ∅
  unitless _ := False
  amount g _ _ := amountOf g.2
  payload g _ _ := payOf m g.1.1 g.2
  amount_pos g _ _ _ := by
    rcases g with ⟨_, q | q⟩
    · exact Nat.one_pos
    · dsimp only [amountOf]; split
      · exact NA_pos
      · split
        · exact NB_pos
        · exact N_pos

instance payOf_storable (c : Dev nD) (sm : SemLoc sig) : BI.Storable (upEmb : UEmb _ 𝕄) (payOf (F := F) m c sm) := by
  rcases sm with q | q <;> dsimp only [payOf] <;> (repeat' split) <;> infer_instance
instance sched_payload_storable (g : GSem nD τ sig) (r : ℕ) (d : Bool) :
    BI.Storable (upEmb : UEmb _ 𝕄) ((sched (F := F) m).payload g r d) := by
  show BI.Storable upEmb (payOf m g.1.1 g.2); infer_instance

section Sched
variable (c : Dev nD) (r : Fin 7)

theorem duties_tc (sm : SemLoc sig) : (sched (F := F) m).duties ((c : Thread nD τ), sm) 0 = dutiesOf sm := by
  dsimp only [sched]; exact if_pos ⟨rfl, rfl⟩
theorem duties_later (g : GSem nD τ sig) : ∀ n, 1 ≤ n → (sched (F := F) m).duties g n = ∅ :=
  fun n hn => by dsimp only [sched]; exact if_neg fun h => by omega

theorem dutiesOf_ready : dutiesOf (.reg (readyS r)) = {false} := by revert r; decide
theorem dutiesOf_send : dutiesOf (.dma (sendS r)) = {false} := by revert r; decide
theorem dutiesOf_recv : dutiesOf (.dma (recvS r)) = {false} := by revert r; decide
theorem duties_bar : (sched (F := F) m).duties (barCell c) 0 = Finset.univ := (duties_tc m c _).trans (by decide)
theorem duties_ready : (sched (F := F) m).duties (readyCell c r) 0 = {false} := (duties_tc m c _).trans (dutiesOf_ready r)
theorem duties_send : (sched (F := F) m).duties (sendCell c r) 0 = {false} := (duties_tc m c _).trans (dutiesOf_send r)
theorem duties_recv : (sched (F := F) m).duties (recvCell c r) 0 = {false} := (duties_tc m c _).trans (dutiesOf_recv r)
theorem duties_inA : (sched (F := F) m).duties (inACell c) 0 = {false} := (duties_tc m c _).trans (by decide)
theorem duties_inB : (sched (F := F) m).duties (inBCell c) 0 = {false} := (duties_tc m c _).trans (by decide)

theorem amount_send (d : Bool) : (sched (F := F) m).amount (sendCell c r) 0 d = N := by
  show (if (sendS r).val = 17 then NA else if (sendS r).val = 18 then NB else N) = N
  have h : (sendS r).val < 9 := Nat.add_lt_add_right r.isLt 2
  rw [if_neg (by omega), if_neg (by omega)]
theorem amount_recv (d : Bool) : (sched (F := F) m).amount (recvCell c r) 0 d = N := by
  show (if (recvS r).val = 17 then NA else if (recvS r).val = 18 then NB else N) = N
  have h : (recvS r).val < 17 := Nat.add_lt_add_right r.isLt 10
  rw [if_neg (by omega), if_neg (by omega)]
theorem amount_inA (d : Bool) : (sched (F := F) m).amount (inACell c) 0 d = NA := by dsimp only [sched, amountOf]; exact if_pos rfl
theorem amount_inB (d : Bool) : (sched (F := F) m).amount (inBCell c) 0 d = NB := by
  dsimp only [sched, amountOf]; rw [if_neg (by decide)]; exact if_pos rfl

theorem expect_bar : (sched (F := F) m).expect (barCell c) 0 = 2 := by
  unfold Schedule.expect Schedule.amountOf
  rw [duties_bar]; rfl
theorem expect_ready : (sched (F := F) m).expect (readyCell c r) 0 = 1 := by
  unfold Schedule.expect Schedule.amountOf; rw [duties_ready, Finset.sum_singleton]; rfl
theorem expect_send : (sched (F := F) m).expect (sendCell c r) 0 = N := by
  unfold Schedule.expect Schedule.amountOf; rw [duties_send, Finset.sum_singleton, amount_send]
theorem expect_recv : (sched (F := F) m).expect (recvCell c r) 0 = N := by
  unfold Schedule.expect Schedule.amountOf; rw [duties_recv, Finset.sum_singleton, amount_recv]
theorem expect_inA : (sched (F := F) m).expect (inACell c) 0 = NA := by
  unfold Schedule.expect Schedule.amountOf; rw [duties_inA, Finset.sum_singleton, amount_inA]
theorem expect_inB : (sched (F := F) m).expect (inBCell c) 0 = NB := by
  unfold Schedule.expect Schedule.amountOf; rw [duties_inB, Finset.sum_singleton, amount_inB]

theorem payload_bar (d : Bool) : (sched (F := F) m).payload (barCell c) 0 d = iprop(emp) := by dsimp only [sched, payOf]; exact dif_neg (by decide)
theorem payload_ready (d : Bool) : (sched (F := F) m).payload (readyCell c r) 0 d = readyPay c r := by
  have h : 1 ≤ (readyS r).val ∧ (readyS r).val < 8 := ⟨Nat.le_add_left 1 _, Nat.succ_lt_succ r.isLt⟩
  exact (dif_pos h).trans (congrArg (readyPay c) (Fin.ext (Nat.add_sub_cancel r.val 1)))
theorem payload_send (d : Bool) : (sched (F := F) m).payload (sendCell c r) 0 d = rowAny c r := by
  have h : 2 ≤ (sendS r).val ∧ (sendS r).val < 9 := ⟨Nat.le_add_left 2 _, Nat.add_lt_add_right r.isLt 2⟩
  exact (dif_pos h).trans (congrArg (rowAny c) (Fin.ext (Nat.add_sub_cancel r.val 2)))
theorem payload_recv (d : Bool) : (sched (F := F) m).payload (recvCell c r) 0 d = recvPay m c r := by
  have h : 10 ≤ (recvS r).val ∧ (recvS r).val < 17 := ⟨Nat.le_add_left 10 _, Nat.add_lt_add_right r.isLt 10⟩
  dsimp only [sched, payOf]
  rw [dif_neg (fun h' => by have := h.1; have := h'.2; omega), dif_pos h]
  exact congrArg (recvPay m c) (Fin.ext (Nat.add_sub_cancel r.val 10))
theorem payload_inA (d : Bool) : (sched (F := F) m).payload (inACell c) 0 d = inAPay m c := by
  dsimp only [sched, payOf]; rw [dif_neg (by decide), dif_neg (by decide)]; exact if_pos rfl
theorem payload_inB (d : Bool) : (sched (F := F) m).payload (inBCell c) 0 d = inBPay m c := by
  dsimp only [sched, payOf]; rw [dif_neg (by decide), dif_neg (by decide), if_neg (by decide)]; exact if_pos rfl

/-- What the waits return: the payloads of a cell's whole round. -/
theorem rest_bar : bigSep ((sched (F := F) m).duties (barCell c) 0 \ ∅) (fun d => (sched (F := F) m).payload (barCell c) 0 d) = iprop(emp ∗ emp) := by
  rw [Finset.sdiff_empty, duties_bar, bigSep_univ_eq_bigSepL [false, true] (by decide) (by decide), bigSepL_cons_cons, bigSepL_singleton,
    payload_bar, payload_bar]
  rfl
theorem rest_ready : bigSep ((sched (F := F) m).duties (readyCell c r) 0 \ ∅) (fun d => (sched (F := F) m).payload (readyCell c r) 0 d) = readyPay c r := by
  rw [Finset.sdiff_empty, duties_ready, bigSep_singleton, payload_ready]
theorem rest_send : bigSep ((sched (F := F) m).duties (sendCell c r) 0 \ ∅) (fun d => (sched (F := F) m).payload (sendCell c r) 0 d) = rowAny c r := by
  rw [Finset.sdiff_empty, duties_send, bigSep_singleton, payload_send]
theorem rest_recv : bigSep ((sched (F := F) m).duties (recvCell c r) 0 \ ∅) (fun d => (sched (F := F) m).payload (recvCell c r) 0 d) = recvPay m c r := by
  rw [Finset.sdiff_empty, duties_recv, bigSep_singleton, payload_recv]
theorem rest_inA : bigSep ((sched (F := F) m).duties (inACell c) 0 \ ∅) (fun d => (sched (F := F) m).payload (inACell c) 0 d) = inAPay m c := by
  rw [Finset.sdiff_empty, duties_inA, bigSep_singleton, payload_inA]
theorem rest_inB : bigSep ((sched (F := F) m).duties (inBCell c) 0 \ ∅) (fun d => (sched (F := F) m).payload (inBCell c) 0 d) = inBPay m c := by
  rw [Finset.sdiff_empty, duties_inB, bigSep_singleton, payload_inB]

end Sched

/-! ## What each device owes; the levels -/

/-- The distances from the `n`-th on, and those before it. -/
abbrev todoR (n : ℕ) : Finset (Fin 7) := Finset.univ.filter fun r => n ≤ r.val
abbrev doneR (n : ℕ) : Finset (Fin 7) := Finset.univ.filter fun r => r.val < n

theorem todoR_step (r : Fin 7) : todoR r.val = insert r (todoR (r.val + 1)) := by revert r; decide
theorem not_mem_todoR (r : Fin 7) : r ∉ todoR (r.val + 1) := by revert r; decide
theorem doneR_step (r : Fin 7) : doneR (r.val + 1) = insert r (doneR r.val) := by revert r; decide
theorem not_mem_doneR (r : Fin 7) : r ∉ doneR r.val := by revert r; decide
theorem todoR_zero : todoR 0 = Finset.univ := by decide
theorem todoR_all : todoR 7 = ∅ := by decide
theorem doneR_zero : doneR 0 = ∅ := by decide
theorem doneR_all : doneR 7 = Finset.univ := by decide

/-- What the device owes its copies' targets and the ready signals it has still to give, from the `n`-th on. -/
def oRecv (c : Dev nD) (n : ℕ) : CellTallies nD τ sig Unit := ∑ r ∈ todoR n, tallyAt (recvCell (up c r) r) () N
def oReady (c : Dev nD) (n : ℕ) : CellTallies nD τ sig Unit := ∑ r ∈ todoR n, tallyAt (readyCell (dn c r) r) () 1

theorem oRecv_step (c : Dev nD) (r : Fin 7) : oRecv c r.val = oRecv c (r.val + 1) + tallyAt (recvCell (up c r) r) () N := by
  unfold oRecv; rw [todoR_step, Finset.sum_insert (not_mem_todoR r), add_comm]
theorem oReady_step (c : Dev nD) (r : Fin 7) : oReady c r.val = oReady c (r.val + 1) + tallyAt (readyCell (dn c r) r) () 1 := by
  unfold oReady; rw [todoR_step, Finset.sum_insert (not_mem_todoR r), add_comm]
theorem oRecv_all (c : Dev nD) : oRecv c 7 = 0 := by unfold oRecv; rw [todoR_all, Finset.sum_empty]
theorem oReady_all (c : Dev nD) : oReady c 7 = 0 := by unfold oReady; rw [todoR_all, Finset.sum_empty]

/-- At launch a device owes all of those and each neighbour's barrier one unit. -/
def O₁ (c : Dev nD) : CellTallies nD τ sig Unit := (oRecv c 0 + oReady c 0) + tallyAt (barCell (dn c 0)) () 1
def O₀ (c : Dev nD) : CellTallies nD τ sig Unit := O₁ c + tallyAt (barCell (up c 0)) () 1

def L (g : GSem nD τ sig) : Finset Unit := if g.1.2 = .tc then {()} else ∅
/-- The signals' cells at 1, the receive cells at 2, every other at 0. -/
def lvOf : SemLoc sig → ℕ
  | .reg _ => 1
  | .dma q => if 10 ≤ q.val ∧ q.val < 17 then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 7) : lv (recvCell c r) () = 2 :=
  if_pos ⟨Nat.le_add_left 10 _, Nat.add_lt_add_right r.isLt 10⟩

theorem sum_tally_pos {g₀ : Fin 7 → GSem nD τ sig} {k : ℕ} {s : Finset (Fin 7)} {g : GSem nD τ sig} {u : Unit}
    (h : 0 < (∑ r ∈ s, tallyAt (g₀ r) () k : CellTallies nD τ sig Unit) g u) : ∃ r, g = g₀ r := by
  by_contra hn
  rw [not_exists] at hn
  rw [Finset.sum_apply, Finsupp.finset_sum_apply, Finset.sum_eq_zero fun r _ => by rw [tallyAt_apply, if_neg fun h' => hn r h'.1]] at h
  exact Nat.lt_irrefl 0 h

theorem oRecv_pos {c : Dev nD} {n : ℕ} {g : GSem nD τ sig} {u : Unit} (h : 0 < oRecv c n g u) : ∃ r, g = recvCell (up c r) r :=
  sum_tally_pos h

/-- Whatever a device owes at launch is owed to a TensorCore's cell of level 1 or 2. -/
theorem O₀_pos {c : Dev nD} {g : GSem nD τ sig} {u : Unit} (h : 0 < O₀ c g u) : g.1.2 = .tc ∧ 0 < lv g () := by
  unfold O₀ O₁ at h
  rw [Pi.add_apply, Finsupp.add_apply, Pi.add_apply, Finsupp.add_apply, Pi.add_apply, Finsupp.add_apply, tallyAt_apply, tallyAt_apply] at h
  by_cases h1 : 0 < oRecv c 0 g u
  · obtain ⟨r, rfl⟩ := oRecv_pos h1; exact ⟨rfl, by rw [lv_recv]; decide⟩
  by_cases h2 : 0 < oReady c 0 g u
  · obtain ⟨r, rfl⟩ := sum_tally_pos h2; exact ⟨rfl, Nat.one_pos⟩
  by_cases h3 : g = barCell (dn c 0)
  · subst h3; exact ⟨rfl, Nat.one_pos⟩
  by_cases h4 : g = barCell (up c 0)
  · subst h4; exact ⟨rfl, Nat.one_pos⟩
  · rw [if_neg fun h' => h3 h'.1, if_neg fun h' => h4 h'.1] at h; omega

/-- A wait on a cell of level 0 is allowed whatever is owed at launch, -/
theorem mayWait_launch (c : Dev nD) (sm : SemLoc sig) (hsm : lvOf sm = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by obtain ⟨h, -⟩ := O₀_pos hg; unfold L; rw [if_pos h]; exact Finset.mem_singleton_self _)
    (fun p hp => by rw [Finset.mem_singleton.mp hp]; exact hsm.le)
    (fun g u hg => (O₀_pos hg).2)

/-- and one on a cell below level 2 while only copies' credits are owed. -/
theorem mayWait_sends (c : Dev nD) (sm : SemLoc sig) (hsm : lvOf sm ≤ 1) (n : ℕ) :
    (levAts L lv : sProp 𝕄) ⊢ MayWait (c : Thread nD τ) sm () (oRecv c n) :=
  MayOwe.of_cut (L := L) (lev := lv) 1 (fun p hp => by rw [Finset.mem_singleton.mp hp, L_tc]; exact Finset.mem_singleton_self _)
    (fun g u hg => by obtain ⟨r, rfl⟩ := oRecv_pos hg; rw [L_tc]; exact Finset.mem_singleton_self _)
    (fun p hp => by rw [Finset.mem_singleton.mp hp]; exact hsm)
    (fun g u hg => by obtain ⟨r, rfl⟩ := oRecv_pos hg; rw [lv_recv]; decide)

end Cert.ScatterProof

end
-- ==== Proof.Steps.lean ====
/-
# `Steps`: what each stretch of the kernel's body does, once for every distance

Each theorem takes the device's holdings before a stretch of operations and, from a proof about the rest of the body
under the holdings after it, proves the body from that stretch on. The distance `r` is arbitrary.
-/
module

public import proofs.«01_k».proof.Proof.Protocol

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells' records -/

/-- The kernel's own semaphores: three arrays of eight (ready, send, receive) and the pair of the two copies in. -/
abbrev Own : Type := (Fin 3 × Fin 8) ⊕ Fin 2

set_option backward.proofsInPublic true in
def osem : Own → SemLoc sig
  | .inl (0, d) => .reg ⟨d.val, Nat.lt_of_lt_of_le d.isLt (by decide)⟩
  | .inl (1, d) => .dma ⟨d.val + 1, Nat.lt_of_lt_of_le (Nat.add_lt_add_right d.isLt 1) (by decide)⟩
  | .inl (2, d) => .dma ⟨d.val + 9, Nat.lt_of_lt_of_le (Nat.add_lt_add_right d.isLt 9) (by decide)⟩
  | .inr i => .dma ⟨i.val + 17, Nat.lt_of_lt_of_le (Nat.add_lt_add_right i.isLt 17) (by decide)⟩

/-- The barrier beside them: every semaphore of the protocol. -/
abbrev CIx : Type := Unit ⊕ Own
def csem : CIx → SemLoc sig
  | .inl _ => .reg barS
  | .inr k => osem k
abbrev kcell (ck : Dev nD × CIx) : GSem nD τ sig := ((ck.1 : Thread nD τ), csem ck.2)

/-- A cell is under the schedule, and its round 0 is open. -/
def record (g : GSem nD τ sig) : sProp 𝕄 := iprop((∃ κ, cellInv ER (sched m) κ g) ∗ reached ER g 0)
instance record_persistent (g : GSem nD τ sig) : BI.Persistent (record m g) := by unfold record; infer_instance
/-- Every cell of every device is. -/
def records : sProp 𝕄 := bigSep Finset.univ fun ck : Dev nD × CIx => record m (kcell ck)
instance records_persistent : BI.Persistent (records m) := by unfold records; infer_instance

theorem record_at (c : Dev nD) (k : CIx) : records m ⊢ record m (kcell (c, k)) :=
  BI.bigSep_elim (Φ := fun ck : Dev nD × CIx => record m (kcell ck)) (Finset.mem_univ (c, k))

theorem record_bar (c : Dev nD) : records m ⊢ record m (barCell c) := record_at m c (.inl ())
theorem record_ready (c : Dev nD) (r : Fin 7) : records m ⊢ record m (readyCell c r) := record_at m c (.inr (.inl (0, r.succ)))
theorem record_send (c : Dev nD) (r : Fin 7) : records m ⊢ record m (sendCell c r) := record_at m c (.inr (.inl (1, r.succ)))
theorem record_recv (c : Dev nD) (r : Fin 7) : records m ⊢ record m (recvCell c r) := record_at m c (.inr (.inl (2, r.succ)))
theorem record_inA (c : Dev nD) : records m ⊢ record m (inACell c) := record_at m c (.inr (.inr 0))
theorem record_inB (c : Dev nD) : records m ⊢ record m (inBCell c) := record_at m c (.inr (.inr 1))

/-! ## Families over the distances, part done and part to do -/

theorem todo_step {M : Type} [URA M] (Φ : Fin 7 → sProp M) (r : Fin 7) :
    bigSep (todoR r.val) Φ = iprop(Φ r ∗ bigSep (todoR (r.val + 1)) Φ) := by
  rw [todoR_step, BI.bigSep_insert (not_mem_todoR r)]; rfl
theorem done_step {M : Type} [URA M] (Φ : Fin 7 → sProp M) (r : Fin 7) :
    bigSep (doneR (r.val + 1)) Φ = iprop(Φ r ∗ bigSep (doneR r.val) Φ) := by
  rw [doneR_step, BI.bigSep_insert (not_mem_doneR r)]; rfl

/-- Some waits have been done, and `O` is owed. -/
def owing (c : Dev nD) (O : CellTallies nD τ sig Unit) : sProp 𝕄 := iprop(∃ W, owes (c : Thread nD τ) O W)

/-- A wait for the whole round of a cell of the device's own, closing it: the round's payload, the counter at zero. -/
theorem wait_close (c : Dev nD) (sm : SemLoc sig) (n : ℕ) (O : CellTallies nD τ sig Unit) (P : sProp 𝕄)
    {w : TpuEff nD τ sig (Elt F) Λ₀ .tc PUnit}
    (hw : ∀ Kw : PUnit → sProp 𝕄, wpE (defs₀ (F := F)) 𝒱₀ (c : Thread nD τ) none Set.univ w Kw = waitSpec (c : Thread nD τ) Set.univ sm n Kw)
    (hn : n = (sched (F := F) m).expect ((c : Thread nD τ), sm) 0)
    (hP : bigSep ((sched (F := F) m).duties ((c : Thread nD τ), sm) 0 \ ∅) (fun d => (sched (F := F) m).payload ((c : Thread nD τ), sm) 0 d) = P)
    {Q : PUnit → sProp 𝕄} {k : PUnit → Prog (TpuEff nD τ sig (Elt F) Λ₀ .tc) PUnit} :
    iprop(record m ((c : Thread nD τ), sm) ∗ cred (tallyAt ((c : Thread nD τ), sm) () n) ∗ owing c O
        ∗ MayWait (c : Thread nD τ) sm () O ∗ atPos ER ((c : Thread nD τ), sm) 0 ∅ 0)
      ⊢ iprop(((owing c O ∗ semVal ((c : Thread nD τ), sm) 0 ∗ P) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold record owing
  iintro ⟨⟨⟨%κ, #HI⟩, -⟩, Hc, ⟨%W, HO⟩, HM, Hat⟩ Hk
  iapply (Rounds.wp_wait_rest_token 𝒱₀ ER (sched m) (c : Thread nD τ) none (κ := κ) (sm := sm) (k' := n)
      hw (Set.mem_univ _) () (O := O) (W := W) (R := 0) (m := 0) (T := ∅) ((Nat.zero_add _).trans hn)) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (sched m) (Set.mem_univ κ) (fun h => h) (R := 0 + 1) (duties_later m ((c : Thread nD τ), sm))) $$ [Hat] with Hz
  · isplitr; · iexact HI
    iexact Hat
  ihave Hp := (Entails.of_eq hP) $$ Hpay
  iapply Hk
  isplitl [HO]; · iexists (insert (sm, ()) W); iexact HO
  isplitl [Hz]; · iexact Hz
  iexact Hp

/-! ## The ready signals -/

def sigSt (c : Dev nD) (n : ℕ) : sProp 𝕄 :=
  iprop(records m ∗ bigSep (todoR n) (fun r => iprop(dutyTok ER (readyCell (dn c r) r) 0 false ∗ slotAny c r.succ))
    ∗ owing c (oRecv c 0 + oReady c n))

/-- The signal to the device `r + 1` behind: it hands over the slot that device copies into. -/
theorem step_ready (c : Dev nD) (r : Fin 7) (e : Dev nD) (he : e = dn c r) (s : Sem sig) (hs : s = readyS r) (R : sProp 𝕄)
    {Q : PUnit → sProp 𝕄} {k : PUnit → Prog (TpuEff nD τ sig (Elt F) Λ₀ .tc) PUnit}
    (h : iprop(sigSt m c (r.val + 1) ∗ R) ⊢ wp frame (wpE (defs₀ (F := F)) 𝒱₀ (c : Thread nD τ) none) Set.univ (k ⟨⟩) Q) :
    iprop(sigSt m c r.val ∗ R) ⊢ wp frame (wpE (defs₀ (F := F)) 𝒱₀ (c : Thread nD τ) none) Set.univ
      (.op (.semSignal (e : Thread nD τ) s 1) k) Q := by
  subst he; subst hs
  unfold sigSt
  rw [todo_step, oReady_step c r, ← add_assoc]
  iintro ⟨⟨#HI, ⟨⟨Htok, Hslot⟩, Htodo⟩, HO⟩, HR⟩
  ihave #Hd := (record_ready m (dn c r) r) $$ HI
  ihave #Hrv := (record_recv m c r) $$ HI
  unfold record owing
  icases Hd with ⟨⟨%κ, #Hg⟩, #Hre⟩
  icases Hrv with ⟨-, #Hrr⟩
  icases HO with ⟨%W, HO⟩
  iapply (Rounds.wp_signal 𝒱₀ ER (sched m) (c : Thread nD τ) none (dst := (dn c r : Thread nD τ)) (κ := κ)
      (d := false) (by rw [duties_ready]; exact Finset.mem_singleton_self _) rfl () (oRecv c 0 + oReady c (r.val + 1)) rfl)
    $$ [HO Htok Hslot]
  · isplitr; · iexact Hg
    isplitl [HO]; · iexact HO
    isplitl [Htok]; · iexact Htok
    isplitl [Hslot]
    · rw [payload_ready]; unfold readyPay; rw [up_dn]
      isplitl [Hslot]; · iexact Hslot
      iexact Hrr
    iexact Hre
  iintro HO
  iapply h
  isplitr [HR]
  · unfold sigSt owing
    isplitr; · iexact HI
    isplitl [Htodo]; · iexact Htodo
    iexists W; iexact HO
  iexact HR

/-! ## The copies of `A` and `B` into vector memory -/

theorem landed_A (c : Dev nD) (fd : Buf (Elt F) (aM.view.loc (c : Thread nD τ))) (fs : Buf (Elt F) (xA.view.loc (c : Thread nD τ))) :
    aM.view.write (Elt F) fd (xA.view.read (Elt F) fs) Finset.univ = fs := by
  show (View.whole cc0_scratch0).write (Elt F) fd ((View.whole main_arg0).read (Elt F) fs) Finset.univ = fs
  rw [View.read_whole]
  exact View.write_whole_univ _ _ _
theorem landed_B (c : Dev nD) (fd : Buf (Elt F) (bM.view.loc (c : Thread nD τ))) (fs : Buf (Elt F) (xB.view.loc (c : Thread nD τ))) :
    bM.view.write (Elt F) fd (xB.view.read (Elt F) fs) Finset.univ = fs := by
  show (View.whole cc0_scratch1).write (Elt F) fd ((View.whole main_arg1).read (Elt F) fs) Finset.univ = fs
  rw [View.read_whole]
  exact View.write_whole_univ _ _ _

theorem hz : (![0, 0] : Fin 2 → Nat) = fun _ => 0 := funext fun a => by fin_cases a <;> rfl
theorem read_b (f : (cc0_scratch1 : Ref sig .tc).ty.Contents (Elt F)) (h : ∀ a, (![0, 0] : Fin 2 → ℕ) a + S256x512.size a ≤ S256x512.size a) :
    (bM.access (Rect.unit (s := S256x512) ![0, 0] S256x512.size h)).read (Elt F) f = f :=
  Memref.readAt_unit_zero (Elt F) cc0_scratch1 hz _ f

/-- Before the copies: both sources as launched, both destinations at any contents. -/
def copySt (c : Dev nD) : sProp 𝕄 :=
  iprop(records m ∗ levAts L lv ∗ (dutyTok ER (inACell c) 0 false ∗ dutyTok ER (inBCell c) 0 false)
    ∗ (atPos ER (inACell c) 0 ∅ 0 ∗ atPos ER (inBCell c) 0 ∅ 0)
    ∗ ((c : Thread nD τ).loc main_arg0 ↦{fullShare} m ((c : Thread nD τ).loc main_arg0))
    ∗ ((c : Thread nD τ).loc main_arg1 ↦{fullShare} m ((c : Thread nD τ).loc main_arg1))
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ owing c (oRecv c 0))
/-- After them: both destinations hold the sources, and the two cells are closed. -/
def copiedSt (c : Dev nD) : sProp 𝕄 :=
  iprop((semVal (inACell c) 0 ∗ semVal (inBCell c) 0) ∗ inAPay m c ∗ inBPay m c ∗ owing c (oRecv c 0))

theorem step_copy (c : Dev nD) (sA sB : DmaSem sig) (hsA : sA = inAS) (hsB : sB = inBS) (R : sProp 𝕄)
    {h0 : xA.view.WordExact} {h1 : aM.view.WordExact} {h2 : DmaTarget.Typed (nD := nD) .hbm (.dma sA) (DmaTarget.here (τ := τ) (p := .tc) aM)}
    {h3 : xB.view.WordExact} {h4 : bM.view.WordExact} {h5 : DmaTarget.Typed (nD := nD) .hbm (.dma sB) (DmaTarget.here (τ := τ) (p := .tc) bM)}
    {h6 : xA.view.WordExact} {h7 : aM.view.WordExact} {h8 : xB.view.WordExact} {h9 : bM.view.WordExact}
    {hb : ∀ a, (![0, 0] : Fin 2 → ℕ) a + S256x512.size a ≤ S256x512.size a}
    {hl : bM.view.LoadsAt (Rect.unit (s := S256x512) ![0, 0] S256x512.size hb).toLoadRect}
    {Q : PUnit → sProp 𝕄} {k : (S256x512.Idx → Elt F .f32) → Prog (TpuEff nD τ sig (Elt F) Λ₀ .tc) PUnit}
    (h : iprop(copiedSt m c ∗ R) ⊢ wp frame (wpE (defs₀ (F := F)) 𝒱₀ (c : Thread nD τ) none) Set.univ (k (bIn m c)) Q) :
    iprop(copySt m c ∗ R) ⊢ wp frame (wpE (defs₀ (F := F)) 𝒱₀ (c : Thread nD τ) none) Set.univ
      (.op (.enqueueDma xA (.here aM) (.dma sA) h0 h1 h2) fun _ =>
        .op (.enqueueDma xB (.here bM) (.dma sB) h3 h4 h5) fun _ =>
        .op (.waitDma2 sA xA aM h6 h7) fun _ => .op (.waitDma2 sB xB bM h8 h9) fun _ =>
        .op (.load bM (Rect.unit (s := S256x512) ![0, 0] S256x512.size hb).toLoadRect hl) k) Q := by
  subst hsA; subst hsB
  unfold copySt
  iintro ⟨⟨#HI, #Hlev, ⟨HtA, HtB⟩, ⟨HatA, HatB⟩, HxA, HxB, ⟨%fa, Ha⟩, ⟨%fb, Hb⟩, HO⟩, HR⟩
  ihave #HA := (record_inA m c) $$ HI
  ihave #HB := (record_inB m c) $$ HI
  unfold record
  icases HA with ⟨⟨%κA, #HgA⟩, #HrA⟩
  icases HB with ⟨⟨%κB, #HgB⟩, #HrB⟩
  iapply (Rounds.wp_copy_pointsTo 𝒱₀ ER (sched m) (c : Thread nD τ) none (src := xA) (dst := aM) (κ := κA) (r := 0) (d := false) (fs := m ((c : Thread nD τ).loc main_arg0)) (fd := fa) (q := fullShare)
      (by rw [duties_inA]; exact Finset.mem_singleton_self _) () NA rfl (amount_inA m c false)
      (by rw [payload_inA, landed_A, View.set_whole, View.set_whole]; exact .rfl)) $$ [HtA HxA Ha]
  · isplitr; · iexact HgA
    isplitl [HxA]; · rw [View.set_whole]; iexact HxA
    isplitl [Ha]; · rw [View.set_whole]; iexact Ha
    isplitl [HtA]; · iexact HtA
    iexact HrA
  iintro HcA
  iapply (Rounds.wp_copy_pointsTo 𝒱₀ ER (sched m) (c : Thread nD τ) none (src := xB) (dst := bM) (κ := κB) (r := 0) (d := false) (fs := m ((c : Thread nD τ).loc main_arg1)) (fd := fb) (q := fullShare)
      (by rw [duties_inB]; exact Finset.mem_singleton_self _) () NB rfl (amount_inB m c false)
      (by rw [payload_inB, landed_B, View.set_whole, View.set_whole]; exact .rfl)) $$ [HtB HxB Hb]
  · isplitr; · iexact HgB
    isplitl [HxB]; · rw [View.set_whole]; iexact HxB
    isplitl [Hb]; · rw [View.set_whole]; iexact Hb
    isplitl [HtB]; · iexact HtB
    iexact HrB
  iintro HcB
  iapply (wait_close m c (.dma inAS) NA (oRecv c 0) (inAPay m c) (wpE_waitDma2_eq 𝒱₀ (c : Thread nD τ) none Set.univ) (expect_inA m c).symm (rest_inA m c)) $$ [HcA HatA HO]
  · isplitr; · iapply (record_inA m c); iexact HI
    isplitl [HcA]; · iexact HcA
    isplitl [HO]; · iexact HO
    isplitr; · iapply (mayWait_sends c (.dma inAS) (by decide) 0); iexact Hlev
    iexact HatA
  iintro ⟨HO, HzA, HpA⟩
  iapply (wait_close m c (.dma inBS) NB (oRecv c 0) (inBPay m c) (wpE_waitDma2_eq 𝒱₀ (c : Thread nD τ) none Set.univ) (expect_inB m c).symm (rest_inB m c)) $$ [HcB HatB HO]
  · isplitr; · iapply (record_inB m c); iexact HI
    isplitl [HcB]; · iexact HcB
    isplitl [HO]; · iexact HO
    isplitr; · iapply (mayWait_sends c (.dma inBS) (by decide) 0); iexact Hlev
    iexact HatB
  iintro ⟨HO, HzB, HpB⟩
  unfold inBPay
  icases HpB with ⟨Hb, HxB⟩
  iapply (wp_load_rect 𝒱₀ (c : Thread nD τ) none Set.univ (m := bM) (r := Rect.unit (s := S256x512) ![0, 0] S256x512.size hb)
    (S := Finset.univ) (q := fullShare) (f := bIn m c) (Finset.subset_univ _)) $$ Hb
  iintro Hb
  rw [read_b]
  iapply h
  isplitr [HR]
  · unfold copiedSt inBPay
    isplitl [HzA HzB]
    · isplitl [HzA]; · iexact HzA
      iexact HzB
    isplitl [HpA]; · iexact HpA
    isplitl [Hb HxB]
    · isplitl [Hb]; · iexact Hb
      iexact HxB
    iexact HO
  iexact HR

/-! ## A product computed and sent -/

def sendSt (c : Dev nD) (n : ℕ) : sProp 𝕄 :=
  iprop(records m ∗ levAts L lv ∗ ((c : Thread nD τ).loc cc0_scratch0 ↦{fullShare} aIn m c)
    ∗ bigSep (todoR n) (fun r => iprop(rowAny c r ∗ atPos ER (readyCell c r) 0 ∅ 0 ∗ cred (tallyAt (readyCell c r) () 1)
        ∗ dutyTok ER (sendCell c r) 0 false ∗ dutyTok ER (recvCell (up c r) r) 0 false))
    ∗ bigSep (doneR n) (fun r => iprop(semVal (readyCell c r) 0 ∗ cred (tallyAt (sendCell c r) () N)))
    ∗ owing c (oRecv c n))

/-- `Rounds.wp_send_pointsTo` at the copy to the device `r + 1` ahead, of rows holding the product for it. -/
theorem send_row (c : Dev nD) (r : Fin 7) (κ₁ κ₂ : ℕ) (O : CellTallies nD τ sig Unit) (W : Waits sig Unit)
    (fs : Buf (Elt F) ((pRow c r).view.loc (c : Thread nD τ))) (hfs : (pRow c r).view.read (Elt F) fs = part m c r)
    (fd : Buf (Elt F) ((slotM r.succ).view.loc (up c r : Thread nD τ)))
    {hsc : (slotM r.succ : Memref sig (Dev.tc (up c r) : Thread nD τ).2.kind .vmem S64x512 .bf16).view.ref.isScScratch = false}
    {hsrc : (pRow c r).view.WordExact} {hdst : (slotM r.succ).view.WordExact}
    {hsem : DmaTarget.Typed .vmem (.dma (recvS r)) (.remote (Dev.tc (up c r) : Thread nD τ) (slotM r.succ) (.dma (sendS r)) hsc)}
    {Q : PUnit → sProp 𝕄} {k : PUnit → Prog (TpuEff nD τ sig (Elt F) Λ₀ .tc) PUnit} :
    iprop(cellInv ER (sched m) κ₁ (sendCell c r) ∗ cellInv ER (sched m) κ₂ (recvCell (up c r) r)
        ∗ ((pRow c r).view.loc (c : Thread nD τ) ↦[(pRow c r).view.set]{fullShare} fs)
        ∗ ((slotM r.succ).view.loc (up c r : Thread nD τ) ↦[(slotM r.succ).view.set]{fullShare} fd)
        ∗ owes (c : Thread nD τ) (O + tallyAt (recvCell (up c r) r) () N) W
        ∗ dutyTok ER (sendCell c r) 0 false ∗ reached ER (sendCell c r) 0
        ∗ dutyTok ER (recvCell (up c r) r) 0 false ∗ reached ER (recvCell (up c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pRow c r) (.remote (Dev.tc (up c r) : Thread nD τ) (slotM r.succ) (.dma (sendS r)) hsc) (.dma (recvS r)) hsrc hdst hsem) k) Q) :=
  Rounds.wp_send_pointsTo 𝒱₀ ER (sched m) (c : Thread nD τ) none (κ₁ := κ₁) (κ₂ := κ₂)
    (r₁ := 0) (r₂ := 0) (d₁ := false) (d₂ := false) (fd := fd)
    (by rw [duties_send]; exact Finset.mem_singleton_self _) (by rw [duties_recv]; exact Finset.mem_singleton_self _)
    () () N rfl (amount_send m c r false) (amount_recv m (up c r) r false) O rfl (W := W)
    (by rw [payload_send]; unfold rowAny; iintro H; iexists fs; iexact H)
    (by
      rw [payload_recv, hfs]; unfold recvPay owns; rw [dn_up]
      iintro H
      iexists ((slotM r.succ).view.write (Elt F) fd (part m c r) Finset.univ)
      isplitr; · ipureintro; exact View.read_write_univ _ _
      iexact H)

/-- One distance: the product's rows loaded, computed and stored, the target's readiness awaited, the copy started. -/
theorem step_send (c : Dev nD) (r : Fin 7) (e : Dev nD) (he : e = up c r) (s : Sem sig) (hs : s = readyS r)
    (sS sR : DmaSem sig) (hsS : sS = sendS r) (hsR : sR = recvS r)
    (pay : (S64x256.Idx → Elt F .f32) → FVec F S64x512 .bf16) (hpay : ∀ v, pay v = k0_pay3 (k0_pay1 (bIn m c)) v)
    (M : Memref sig .tc .vmem S64x512 .bf16) (hM : M = slotM r.succ) (R : sProp 𝕄)
    {hl : aM.view.LoadsAt (aRect c r).toLoadRect} {hl' : pM.view.LoadsAt (pRect c r).toLoadRect}
    {hx : (pM.access (pRect c r)).Stores Finset.univ} {hm : (Finset.univ : Finset (pRect c r).shape.Idx) = Finset.univ ∨ ∀ a, (pRect c r).stride a = 1}
    {hsc : (M : Memref sig (Dev.tc e : Thread nD τ).2.kind .vmem S64x512 .bf16).view.ref.isScScratch = false}
    {hsrc : (pRow c r).view.WordExact} {hdst : M.view.WordExact}
    {hsem : DmaTarget.Typed .vmem (.dma sR) (.remote (Dev.tc e : Thread nD τ) M (.dma sS) hsc)}
    {Q : PUnit → sProp 𝕄} {k : PUnit → Prog (TpuEff nD τ sig (Elt F) Λ₀ .tc) PUnit}
    (h : iprop(sendSt m c (r.val + 1) ∗ R) ⊢ wp frame (wpE (defs₀ (F := F)) 𝒱₀ (c : Thread nD τ) none) Set.univ (k ⟨⟩) Q) :
    iprop(sendSt m c r.val ∗ R) ⊢ wp frame (wpE (defs₀ (F := F)) 𝒱₀ (c : Thread nD τ) none) Set.univ
      (.op (.load aM (aRect c r).toLoadRect hl) fun v => .op (.load pM (pRect c r).toLoadRect hl') fun _ =>
        .op (.store pM (pRect c r) (pay v) Finset.univ hx hm) fun _ => .op (.semWait s 1) fun _ =>
        .op (.enqueueDma (pRow c r) (.remote (Dev.tc e : Thread nD τ) M (.dma sS) hsc) (.dma sR) hsrc hdst hsem) k) Q := by
  subst he; subst hs; subst hsS; subst hsR; subst hM
  unfold sendSt
  rw [todo_step]
  iintro ⟨⟨#HI, #Hlev, Ha, ⟨⟨Hrow, Hat, Hcr, HtS, HtR⟩, Htodo⟩, Hdone, HO⟩, HR⟩
  unfold rowAny
  icases Hrow with ⟨%f, Hrow⟩
  iapply (wp_load_rect 𝒱₀ (c : Thread nD τ) none Set.univ (m := aM) (r := aRect c r)
    (S := Finset.univ) (q := fullShare) (f := aIn m c) (Finset.subset_univ _)) $$ Ha
  iintro Ha
  iapply (wp_load_rect 𝒱₀ (c : Thread nD τ) none Set.univ (m := pM) (r := pRect c r) (S := (pRow c r).view.set) (Finset.Subset.refl _)) $$ Hrow
  iintro Hrow
  rw [hpay]
  iapply (wp_store 𝒱₀ (c : Thread nD τ) none Set.univ (m := pM) (r := pRect c r) (S := (pRow c r).view.set) (View.setOn_subset_set _ _)) $$ Hrow
  iintro Hrow
  iapply (wait_close m c (.reg (readyS r)) 1 (oRecv c r.val) (readyPay c r) (wpE_semWait_eq 𝒱₀ (c : Thread nD τ) none Set.univ) (expect_ready m c r).symm (rest_ready m c r)) $$ [Hcr Hat HO]
  · isplitr; · iapply (record_ready m c r); iexact HI
    isplitl [Hcr]; · iexact Hcr
    isplitl [HO]; · iexact HO
    isplitr; · iapply (mayWait_sends c (.reg (readyS r)) le_rfl r.val); iexact Hlev
    iexact Hat
  iintro ⟨HO, Hz, Hp⟩
  unfold readyPay slotAny
  icases Hp with ⟨⟨%fn, Hslot⟩, #Hrr⟩
  ihave #H1 := (record_send m c r) $$ HI
  ihave #H2 := (record_recv m (up c r) r) $$ HI
  unfold record owing
  icases H1 with ⟨⟨%κ₁, #Hg1⟩, #Hr1⟩
  icases H2 with ⟨⟨%κ₂, #Hg2⟩, -⟩
  icases HO with ⟨%W, HO⟩
  rw [oRecv_step c r]
  iapply (send_row m c r κ₁ κ₂ (oRecv c (r.val + 1)) W _ (View.read_write_univ _ _) fn) $$ [Hrow Hslot HO HtS HtR]
  · isplitr; · iexact Hg1
    isplitr; · iexact Hg2
    isplitl [Hrow]; · iexact Hrow
    isplitl [Hslot]; · iexact Hslot
    isplitl [HO]; · iexact HO
    isplitl [HtS]; · iexact HtS
    isplitr; · iexact Hr1
    isplitl [HtR]; · iexact HtR
    iexact Hrr
  iintro ⟨HcS, HO⟩
  iapply h
  isplitr [HR]
  · unfold sendSt owing
    rw [done_step]
    isplitr; · iexact HI
    isplitr; · iexact Hlev
    isplitl [Ha]; · iexact Ha
    isplitl [Htodo]; · iexact Htodo
    isplitl [Hz HcS Hdone]
    · isplitl [Hz HcS]
      · isplitl [Hz]; · iexact Hz
        iexact HcS
      iexact Hdone
    iexists W; iexact HO
  iexact HR

/-! ## The barrier signals -/

def barSt (c : Dev nD) : sProp 𝕄 :=
  iprop(records m ∗ (dutyTok ER (barCell (up c 0)) 0 false ∗ dutyTok ER (barCell (dn c 0)) 0 true) ∗ owing c (O₀ c))

/-- The two signals to the neighbours' barriers, which carry nothing. -/
theorem step_bar (c : Dev nD) (e e' : Dev nD) (he : e = up c 0) (he' : e' = dn c 0) (s s' : Sem sig) (hs : s = barS) (hs' : s' = barS) (R : sProp 𝕄)
    {Q : PUnit → sProp 𝕄} {k : PUnit → Prog (TpuEff nD τ sig (Elt F) Λ₀ .tc) PUnit}
    (h : iprop(records m ∗ owing c (oRecv c 0 + oReady c 0) ∗ R) ⊢ wp frame (wpE (defs₀ (F := F)) 𝒱₀ (c : Thread nD τ) none) Set.univ (k ⟨⟩) Q) :
    iprop(barSt m c ∗ R) ⊢ wp frame (wpE (defs₀ (F := F)) 𝒱₀ (c : Thread nD τ) none) Set.univ
      (.op (.semSignal (e : Thread nD τ) s 1) fun _ => .op (.semSignal (e' : Thread nD τ) s' 1) k) Q := by
  subst he; subst he'; subst hs; subst hs'
  unfold barSt
  iintro ⟨⟨#HI, ⟨HtU, HtD⟩, HO⟩, HR⟩
  ihave #HU := (record_bar m (up c 0)) $$ HI
  ihave #HD := (record_bar m (dn c 0)) $$ HI
  unfold record owing
  icases HU with ⟨⟨%κu, #HgU⟩, #HrU⟩
  icases HD with ⟨⟨%κd, #HgD⟩, #HrD⟩
  icases HO with ⟨%W, HO⟩
  iapply (Rounds.wp_signal 𝒱₀ ER (sched m) (c : Thread nD τ) none (dst := (up c 0 : Thread nD τ)) (κ := κu)
      (d := false) (by rw [duties_bar]; exact Finset.mem_univ _) rfl () (O₁ c) rfl) $$ [HO HtU]
  · isplitr; · iexact HgU
    isplitl [HO]; · iexact HO
    isplitl [HtU]; · iexact HtU
    isplitr; · rw [payload_bar]; iempintro
    iexact HrU
  iintro HO
  unfold O₁
  iapply (Rounds.wp_signal 𝒱₀ ER (sched m) (c : Thread nD τ) none (dst := (dn c 0 : Thread nD τ)) (κ := κd)
      (d := true) (by rw [duties_bar]; exact Finset.mem_univ _) rfl () (oRecv c 0 + oReady c 0) rfl) $$ [HO HtD]
  · isplitr; · iexact HgD
    isplitl [HO]; · iexact HO
    isplitl [HtD]; · iexact HtD
    isplitr; · rw [payload_bar]; iempintro
    iexact HrD
  iintro HO
  iapply h
  isplitr; · iexact HI
  isplitl [HO]
  · unfold owing; iexists W; iexact HO
  iexact HR

/-! ## The device's own product -/

def ownAny (c : Dev nD) : sProp 𝕄 := iprop(∃ f, (pOwn c).view.loc (c : Thread nD τ) ↦[(pOwn c).view.set]{fullShare} f)
def ownSt (c : Dev nD) : sProp 𝕄 := iprop(((c : Thread nD τ).loc cc0_scratch0 ↦{fullShare} aIn m c) ∗ ownAny c)

/-- Its rows loaded, the product computed, stored and read back. -/
theorem step_own (c : Dev nD)
    (pay : (S64x256.Idx → Elt F .f32) → FVec F S64x512 .bf16) (hpay : ∀ v, pay v = k0_pay3 (k0_pay1 (bIn m c)) v) (R : sProp 𝕄)
    {hl : aM.view.LoadsAt (aOwn c).toLoadRect} {hl' hl'' : pM.view.LoadsAt (pOwnRect c).toLoadRect}
    {hx : (pM.access (pOwnRect c)).Stores Finset.univ} {hm : (Finset.univ : Finset (pOwnRect c).shape.Idx) = Finset.univ ∨ ∀ a, (pOwnRect c).stride a = 1}
    {Q : PUnit → sProp 𝕄} {k : (S64x512.Idx → Elt F .bf16) → Prog (TpuEff nD τ sig (Elt F) Λ₀ .tc) PUnit}
    (h : iprop(ownSt m c ∗ R) ⊢ wp frame (wpE (defs₀ (F := F)) 𝒱₀ (c : Thread nD τ) none) Set.univ (k (ownPart m c)) Q) :
    iprop(ownSt m c ∗ R) ⊢ wp frame (wpE (defs₀ (F := F)) 𝒱₀ (c : Thread nD τ) none) Set.univ
      (.op (.load aM (aOwn c).toLoadRect hl) fun v => .op (.load pM (pOwnRect c).toLoadRect hl') fun _ =>
        .op (.store pM (pOwnRect c) (pay v) Finset.univ hx hm) fun _ => .op (.load pM (pOwnRect c).toLoadRect hl'') k) Q := by
  unfold ownSt ownAny
  iintro ⟨⟨Ha, ⟨%f, Hrow⟩⟩, HR⟩
  iapply (wp_load_rect 𝒱₀ (c : Thread nD τ) none Set.univ (m := aM) (r := aOwn c)
    (S := Finset.univ) (q := fullShare) (f := aIn m c) (Finset.subset_univ _)) $$ Ha
  iintro Ha
  iapply (wp_load_rect 𝒱₀ (c : Thread nD τ) none Set.univ (m := pM) (r := pOwnRect c) (S := (pOwn c).view.set) (Finset.Subset.refl _)) $$ Hrow
  iintro Hrow
  rw [hpay]
  iapply (wp_store 𝒱₀ (c : Thread nD τ) none Set.univ (m := pM) (r := pOwnRect c) (S := (pOwn c).view.set) (View.setOn_subset_set _ _)) $$ Hrow
  iintro Hrow
  iapply (wp_load_rect 𝒱₀ (c : Thread nD τ) none Set.univ (m := pM) (r := pOwnRect c) (S := (pOwn c).view.set) (Finset.Subset.refl _)) $$ Hrow
  iintro Hrow
  rw [View.read_write_univ]
  iapply h
  isplitr [HR]
  · unfold ownSt ownAny
    isplitl [Ha]; · iexact Ha
    iexists _; iexact Hrow
  iexact HR

/-! ## A product received and added -/

/-- A 64 × 512 block as the 1 × 64 × 512 slab the landing buffer is read by. -/
def slab {α : Type} (w : S64x512.Idx → α) : S1x64x512.Idx → α :=
  fun j => w ((Shape.reshapeEquiv (squeezes_S1x64x512_S64x512 : S1x64x512.Squeezes S64x512).numel_eq).symm j)

theorem shapeCast_slab {α : Type} (w : S64x512.Idx → α) (h : S1x64x512.ShapeCasts S64x512) : shapeCast S64x512 (slab w) h = w := by
  funext j; unfold shapeCast slab; exact congrArg w (Equiv.symm_apply_apply _ j)

/-- Reading a slot as a slab is reading it as a block. -/
theorem read_slab (k : Fin 8) (f : (cc0_scratch3 : Ref sig .tc).ty.Contents (Elt F)) :
    (cM.access (slotRect k)).read (Elt F) f = slab ((slotM k).view.read (Elt F) f) := by
  funext j
  show _ = (cM.access (slotRect k)).read (Elt F) f ((Shape.reshapeEquiv _) ((Shape.reshapeEquiv _).symm j))
  rw [Equiv.apply_symm_apply]

def recvSt (c : Dev nD) (n : ℕ) : sProp 𝕄 :=
  iprop(records m ∗ bigSep (todoR n) (fun r => iprop(atPos ER (recvCell c r) 0 ∅ 0 ∗ cred (tallyAt (recvCell c r) () N)))
    ∗ bigSep (doneR n) (fun r => iprop(semVal (recvCell c r) 0 ∗ slotAny c r.succ))
    ∗ owing c 0)

/-- The wait for the copy from the device `r + 1` behind, then its slot loaded: the product that device computed. -/
theorem step_recv (c : Dev nD) (r : Fin 7) (sR : DmaSem sig) (hsR : sR = recvS r) (R : sProp 𝕄)
    {src dst : Memref sig .tc .vmem S64x512 .bf16} {hsrc : src.view.WordExact} {hdst : dst.view.WordExact} (hN : dst.view.dmaCredit = N)
    {hl : cM.view.LoadsAt (slotRect r.succ).toLoadRect}
    {Q : PUnit → sProp 𝕄} {k : (S1x64x512.Idx → Elt F .bf16) → Prog (TpuEff nD τ sig (Elt F) Λ₀ .tc) PUnit}
    (h : iprop(recvSt m c (r.val + 1) ∗ R) ⊢ wp frame (wpE (defs₀ (F := F)) 𝒱₀ (c : Thread nD τ) none) Set.univ (k (slab (part m (dn c r) r))) Q) :
    iprop(recvSt m c r.val ∗ R) ⊢ wp frame (wpE (defs₀ (F := F)) 𝒱₀ (c : Thread nD τ) none) Set.univ
      (.op (.waitDma2 sR src dst hsrc hdst) fun _ => .op (.load cM (slotRect r.succ).toLoadRect hl) k) Q := by
  subst hsR
  unfold recvSt
  rw [todo_step]
  iintro ⟨⟨#HI, ⟨⟨Hat, Hcr⟩, Htodo⟩, Hdone, HO⟩, HR⟩
  iapply (wait_close m c (.dma (recvS r)) dst.view.dmaCredit 0 (recvPay m c r) (wpE_waitDma2_eq 𝒱₀ (c : Thread nD τ) none Set.univ)
      (hN.trans (expect_recv m c r).symm) (rest_recv m c r)) $$ [Hcr Hat HO]
  · isplitr; · iapply (record_recv m c r); iexact HI
    isplitl [Hcr]; · rw [hN]; iexact Hcr
    isplitl [HO]; · iexact HO
    isplitr; · rw [MayWait_zero]; iempintro
    iexact Hat
  iintro ⟨HO, Hz, Hp⟩
  unfold recvPay owns
  icases Hp with ⟨%f, %hf, Hslot⟩
  iapply (wp_load_rect 𝒱₀ (c : Thread nD τ) none Set.univ (m := cM) (r := slotRect r.succ) (S := (slotM r.succ).view.set)
    (View.set_reshape (cM.access (slotRect r.succ)) _).ge) $$ Hslot
  iintro Hslot
  rw [read_slab, hf]
  iapply h
  isplitr [HR]
  · unfold recvSt slotAny
    rw [done_step]
    isplitr; · iexact HI
    isplitl [Htodo]; · iexact Htodo
    isplitl [Hz Hslot Hdone]
    · isplitl [Hz Hslot]
      · isplitl [Hz]; · iexact Hz
        iexists f; iexact Hslot
      iexact Hdone
    iexact HO
  iexact HR

/-! ## The barrier wait and the result -/

theorem write_out (f w : (cc0_stg0_0 : Ref sig .tc).ty.Contents (Elt F)) (h : ∀ a, (![0, 0] : Fin 2 → ℕ) a + S64x512.size a ≤ S64x512.size a) :
    ((oM.access (Rect.unit (s := S64x512) ![0, 0] S64x512.size h)) : View sig .tc _ _ _).write (Elt F) f w Finset.univ = w :=
  Memref.write_access_unit_zero_univ (Elt F) cc0_stg0_0 hz _ f w

def outSt (c : Dev nD) : sProp 𝕄 :=
  iprop(records m ∗ (atPos ER (barCell c) 0 ∅ 0 ∗ cred (tallyAt (barCell c) () 2))
    ∗ (∃ f : Buf (Elt F) ((c : Thread nD τ).loc cc0_stg0_0), (c : Thread nD τ).loc cc0_stg0_0 ↦{fullShare} f) ∗ owing c 0)
def storedSt (c : Dev nD) (w : (cc0_stg0_0 : Ref sig .tc).ty.Contents (Elt F)) : sProp 𝕄 :=
  iprop(records m ∗ semVal (barCell c) 0 ∗ ((c : Thread nD τ).loc cc0_stg0_0 ↦{fullShare} w) ∗ owing c 0)

/-- The wait for both neighbours' signals, then the result stored. -/
theorem step_out (c : Dev nD) (s : Sem sig) (hs : s = barS) (w : (cc0_stg0_0 : Ref sig .tc).ty.Contents (Elt F)) (R : sProp 𝕄)
    {hb : ∀ a, (![0, 0] : Fin 2 → ℕ) a + S64x512.size a ≤ S64x512.size a}
    {hl : oM.view.LoadsAt (Rect.unit (s := S64x512) ![0, 0] S64x512.size hb).toLoadRect}
    {hx : (oM.access (Rect.unit (s := S64x512) ![0, 0] S64x512.size hb)).Stores Finset.univ}
    {hm : (Finset.univ : Finset (Rect.unit (s := S64x512) ![0, 0] S64x512.size hb).shape.Idx) = Finset.univ ∨ ∀ a, (Rect.unit (s := S64x512) ![0, 0] S64x512.size hb).stride a = 1}
    {Q : PUnit → sProp 𝕄} {k : PUnit → Prog (TpuEff nD τ sig (Elt F) Λ₀ .tc) PUnit}
    (h : iprop(storedSt m c w ∗ R) ⊢ wp frame (wpE (defs₀ (F := F)) 𝒱₀ (c : Thread nD τ) none) Set.univ (k ⟨⟩) Q) :
    iprop(outSt m c ∗ R) ⊢ wp frame (wpE (defs₀ (F := F)) 𝒱₀ (c : Thread nD τ) none) Set.univ
      (.op (.semWait s 2) fun _ => .op (.load oM (Rect.unit (s := S64x512) ![0, 0] S64x512.size hb).toLoadRect hl) fun _ =>
        .op (.store oM (Rect.unit (s := S64x512) ![0, 0] S64x512.size hb) w Finset.univ hx hm) k) Q := by
  subst hs
  unfold outSt
  iintro ⟨⟨#HI, ⟨Hat, Hcr⟩, ⟨%f, Hout⟩, HO⟩, HR⟩
  iapply (wait_close m c (.reg barS) 2 0 iprop(emp ∗ emp) (wpE_semWait_eq 𝒱₀ (c : Thread nD τ) none Set.univ)
      (expect_bar m c).symm (rest_bar m c)) $$ [Hcr Hat HO]
  · isplitr; · iapply (record_bar m c); iexact HI
    isplitl [Hcr]; · iexact Hcr
    isplitl [HO]; · iexact HO
    isplitr; · rw [MayWait_zero]; iempintro
    iexact Hat
  iintro ⟨HO, Hz, -⟩
  iapply (wp_load_rect 𝒱₀ (c : Thread nD τ) none Set.univ (m := oM) (r := Rect.unit (s := S64x512) ![0, 0] S64x512.size hb)
    (S := Finset.univ) (q := fullShare) (f := f) (Finset.subset_univ _)) $$ Hout
  iintro Hout
  iapply (wp_store 𝒱₀ (c : Thread nD τ) none Set.univ (m := oM) (r := Rect.unit (s := S64x512) ![0, 0] S64x512.size hb)
    (S := Finset.univ) (f := f) (Finset.subset_univ _)) $$ Hout
  iintro Hout
  rw [write_out]
  iapply h
  isplitr [HR]
  · unfold storedSt
    isplitr; · iexact HI
    isplitl [Hz]; · iexact Hz
    isplitl [Hout]; · iexact Hout
    iexact HO
  iexact HR

/-! ## The waits for the sent rows -/

def doneSt (c : Dev nD) (n : ℕ) : sProp 𝕄 :=
  iprop(records m ∗ bigSep (todoR n) (fun r => iprop(atPos ER (sendCell c r) 0 ∅ 0 ∗ cred (tallyAt (sendCell c r) () N)))
    ∗ bigSep (doneR n) (fun r => iprop(semVal (sendCell c r) 0 ∗ rowAny c r))
    ∗ owing c 0)

/-- The wait for the copy to the device `r + 1` ahead to have read its rows: they come back. -/
theorem step_done (c : Dev nD) (r : Fin 7) (sS : DmaSem sig) (hsS : sS = sendS r) (R : sProp 𝕄)
    {src dst : Memref sig .tc .vmem S64x512 .bf16} {hsrc : src.view.WordExact} {hdst : dst.view.WordExact} (hN : dst.view.dmaCredit = N)
    {Q : PUnit → sProp 𝕄} {k : PUnit → Prog (TpuEff nD τ sig (Elt F) Λ₀ .tc) PUnit}
    (h : iprop(doneSt m c (r.val + 1) ∗ R) ⊢ wp frame (wpE (defs₀ (F := F)) 𝒱₀ (c : Thread nD τ) none) Set.univ (k ⟨⟩) Q) :
    iprop(doneSt m c r.val ∗ R) ⊢ wp frame (wpE (defs₀ (F := F)) 𝒱₀ (c : Thread nD τ) none) Set.univ
      (.op (.waitDma2 sS src dst hsrc hdst) k) Q := by
  subst hsS
  unfold doneSt
  rw [todo_step]
  iintro ⟨⟨#HI, ⟨⟨Hat, Hcr⟩, Htodo⟩, Hdone, HO⟩, HR⟩
  iapply (wait_close m c (.dma (sendS r)) dst.view.dmaCredit 0 (rowAny c r) (wpE_waitDma2_eq 𝒱₀ (c : Thread nD τ) none Set.univ)
      (hN.trans (expect_send m c r).symm) (rest_send m c r)) $$ [Hcr Hat HO]
  · isplitr; · iapply (record_send m c r); iexact HI
    isplitl [Hcr]; · rw [hN]; iexact Hcr
    isplitl [HO]; · iexact HO
    isplitr; · rw [MayWait_zero]; iempintro
    iexact Hat
  iintro ⟨HO, Hz, Hp⟩
  iapply h
  isplitr [HR]
  · unfold doneSt
    rw [done_step]
    isplitr; · iexact HI
    isplitl [Htodo]; · iexact Htodo
    isplitl [Hz Hp Hdone]
    · isplitl [Hz Hp]
      · isplitl [Hz]; · iexact Hz
        iexact Hp
      iexact Hdone
    iexact HO
  iexact HR

end Cert.ScatterProof

end
-- ==== Proof.Body.lean ====
/-
# `Body`: the kernel's body on one device, stretch after stretch

The body's operations in program order are: two barrier signals, seven ready signals, the copies of `A` and `B` into
vector memory, seven products computed and sent, the device's own product, seven products received and added, the
barrier wait and the result's store, seven waits for the sent rows. `Steps` proves each stretch for any distance; here
the holdings are handed from one stretch to the next.
-/
module

public import proofs.«01_k».proof.Proof.Steps

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The holdings of the stretches -/

/-- For the ready signals: the tokens, and the slots to hand over. -/
def sigFam (c : Dev nD) : sProp 𝕄 :=
  bigSep Finset.univ fun r : Fin 7 => iprop(dutyTok ER (readyCell (dn c r) r) 0 false ∗ slotAny c r.succ)
/-- For the two copies in: tokens, positions, sources and destinations. -/
def copyFam (c : Dev nD) : sProp 𝕄 :=
  iprop((dutyTok ER (inACell c) 0 false ∗ dutyTok ER (inBCell c) 0 false)
    ∗ (atPos ER (inACell c) 0 ∅ 0 ∗ atPos ER (inBCell c) 0 ∅ 0)
    ∗ ((c : Thread nD τ).loc main_arg0 ↦{fullShare} m ((c : Thread nD τ).loc main_arg0))
    ∗ ((c : Thread nD τ).loc main_arg1 ↦{fullShare} m ((c : Thread nD τ).loc main_arg1))
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))
/-- For the products sent: the rows, the readiness to await, the copies' tokens. -/
def sendFam (c : Dev nD) : sProp 𝕄 :=
  bigSep Finset.univ fun r : Fin 7 => iprop(rowAny c r ∗ atPos ER (readyCell c r) 0 ∅ 0 ∗ cred (tallyAt (readyCell c r) () 1)
    ∗ dutyTok ER (sendCell c r) 0 false ∗ dutyTok ER (recvCell (up c r) r) 0 false)
/-- For the products received: the positions and the credits. -/
def recvFam (c : Dev nD) : sProp 𝕄 :=
  bigSep Finset.univ fun r : Fin 7 => iprop(atPos ER (recvCell c r) 0 ∅ 0 ∗ cred (tallyAt (recvCell c r) () N))
/-- For the barrier wait and the result. -/
def outFam (c : Dev nD) : sProp 𝕄 :=
  iprop((atPos ER (barCell c) 0 ∅ 0 ∗ cred (tallyAt (barCell c) () 2))
    ∗ (∃ f : Buf (Elt F) ((c : Thread nD τ).loc cc0_stg0_0), (c : Thread nD τ).loc cc0_stg0_0 ↦{fullShare} f))
/-- For the waits on the sent rows. -/
def doneFam (c : Dev nD) : sProp 𝕄 := bigSep Finset.univ fun r : Fin 7 => atPos ER (sendCell c r) 0 ∅ 0

/-- What the body starts from. -/
def beginSt (c : Dev nD) : sProp 𝕄 :=
  iprop(barSt m c ∗ levAts L lv ∗ sigFam c ∗ copyFam m c ∗ sendFam c ∗ ownAny c ∗ recvFam c ∗ outFam c ∗ doneFam c)

/-- What the two copies in leave: the cells closed, the arguments and the copy of `B`. -/
def keptSt (c : Dev nD) : sProp 𝕄 :=
  iprop((semVal (inACell c) 0 ∗ semVal (inBCell c) 0)
    ∗ ((c : Thread nD τ).loc main_arg0 ↦{fullShare} m ((c : Thread nD τ).loc main_arg0)) ∗ inBPay m c)
def sentSt (c : Dev nD) : sProp 𝕄 := bigSep Finset.univ fun r : Fin 7 => iprop(semVal (readyCell c r) 0 ∗ cred (tallyAt (sendCell c r) () N))
def gotSt (c : Dev nD) : sProp 𝕄 := bigSep Finset.univ fun r : Fin 7 => iprop(semVal (recvCell c r) 0 ∗ slotAny c r.succ)

/-- What it ends with: every cell it used closed, every buffer back, `w` in the result's buffer. -/
def endSt (c : Dev nD) (w : (cc0_stg0_0 : Ref sig .tc).ty.Contents (Elt F)) : sProp 𝕄 :=
  iprop(keptSt m c ∗ ownSt m c ∗ (bigSep Finset.univ fun r : Fin 7 => semVal (readyCell c r) 0) ∗ gotSt c
    ∗ (bigSep Finset.univ fun r : Fin 7 => iprop(semVal (sendCell c r) 0 ∗ rowAny c r))
    ∗ semVal (barCell c) 0 ∗ ((c : Thread nD τ).loc cc0_stg0_0 ↦{fullShare} w) ∗ owing c 0 ∗ records m)

/-! ## From one stretch to the next -/

def afterBar (c : Dev nD) : sProp 𝕄 := iprop(levAts L lv ∗ sigFam c ∗ copyFam m c ∗ sendFam c ∗ ownAny c ∗ recvFam c ∗ outFam c ∗ doneFam c)
def afterSig (c : Dev nD) : sProp 𝕄 := iprop(levAts L lv ∗ copyFam m c ∗ sendFam c ∗ ownAny c ∗ recvFam c ∗ outFam c ∗ doneFam c)
def afterCopy (c : Dev nD) : sProp 𝕄 := iprop(records m ∗ levAts L lv ∗ sendFam c ∗ ownAny c ∗ recvFam c ∗ outFam c ∗ doneFam c)
def afterSend (c : Dev nD) : sProp 𝕄 := iprop(keptSt m c ∗ ownAny c ∗ recvFam c ∗ outFam c ∗ doneFam c)
def afterOwn (c : Dev nD) : sProp 𝕄 := iprop(records m ∗ owing c 0 ∗ sentSt c ∗ keptSt m c ∗ recvFam c ∗ outFam c ∗ doneFam c)
def afterRecv (c : Dev nD) : sProp 𝕄 := iprop(ownSt m c ∗ sentSt c ∗ keptSt m c ∗ outFam c ∗ doneFam c)
def afterOut (c : Dev nD) : sProp 𝕄 := iprop(ownSt m c ∗ sentSt c ∗ keptSt m c ∗ gotSt c ∗ doneFam c)
def afterDone (c : Dev nD) (w : (cc0_stg0_0 : Ref sig .tc).ty.Contents (Elt F)) : sProp 𝕄 :=
  iprop(ownSt m c ∗ (bigSep Finset.univ fun r : Fin 7 => semVal (readyCell c r) 0) ∗ keptSt m c ∗ gotSt c ∗ semVal (barCell c) 0
    ∗ ((c : Thread nD τ).loc cc0_stg0_0 ↦{fullShare} w))

theorem to_bar (c : Dev nD) : beginSt m c ⊢ iprop(barSt m c ∗ afterBar m c) := .rfl

theorem to_sig (c : Dev nD) : iprop(records m ∗ owing c (oRecv c 0 + oReady c 0) ∗ afterBar m c) ⊢ iprop(sigSt m c 0 ∗ afterSig m c) := by
  unfold afterBar afterSig sigSt sigFam
  rw [todoR_zero]
  iintro ⟨HI, HO, Hl, Hs, Hr⟩
  isplitl [HI HO Hs]
  · isplitl [HI]; · iexact HI
    isplitl [Hs]; · iexact Hs
    iexact HO
  isplitl [Hl]; · iexact Hl
  iexact Hr

theorem to_copy (c : Dev nD) : iprop(sigSt m c 7 ∗ afterSig m c) ⊢ iprop(copySt m c ∗ afterCopy m c) := by
  unfold afterSig afterCopy sigSt copySt copyFam
  rw [oReady_all, add_zero]
  iintro ⟨⟨#HI, -, HO⟩, #Hl, ⟨Ht, Ha, Hx, Hy, Hf, Hg⟩, Hr⟩
  isplitl [HO Ht Ha Hx Hy Hf Hg]
  · isplitr; · iexact HI
    isplitr; · iexact Hl
    isplitl [Ht]; · iexact Ht
    isplitl [Ha]; · iexact Ha
    isplitl [Hx]; · iexact Hx
    isplitl [Hy]; · iexact Hy
    isplitl [Hf]; · iexact Hf
    isplitl [Hg]; · iexact Hg
    iexact HO
  isplitr; · iexact HI
  isplitr; · iexact Hl
  iexact Hr

theorem to_send (c : Dev nD) : iprop(copiedSt m c ∗ afterCopy m c) ⊢ iprop(sendSt m c 0 ∗ afterSend m c) := by
  unfold afterCopy afterSend copiedSt sendSt keptSt inAPay sendFam
  rw [todoR_zero, doneR_zero, BI.bigSep_empty]
  iintro ⟨⟨Hz, ⟨Ha, Hx⟩, HB, HO⟩, HI, Hl, Hs, Hr⟩
  isplitl [HI Hl Ha Hs HO]
  · isplitl [HI]; · iexact HI
    isplitl [Hl]; · iexact Hl
    isplitl [Ha]; · iexact Ha
    isplitl [Hs]; · iexact Hs
    isplitr; · iempintro
    iexact HO
  isplitl [Hz Hx HB]
  · isplitl [Hz]; · iexact Hz
    isplitl [Hx]; · iexact Hx
    iexact HB
  iexact Hr

theorem to_own (c : Dev nD) : iprop(sendSt m c 7 ∗ afterSend m c) ⊢ iprop(ownSt m c ∗ afterOwn m c) := by
  unfold afterSend afterOwn sendSt ownSt sentSt
  rw [doneR_all, oRecv_all]
  iintro ⟨⟨HI, -, Ha, -, Hs, HO⟩, Hk, Ho, Hr⟩
  isplitl [Ha Ho]
  · isplitl [Ha]; · iexact Ha
    iexact Ho
  isplitl [HI]; · iexact HI
  isplitl [HO]; · iexact HO
  isplitl [Hs]; · iexact Hs
  isplitl [Hk]; · iexact Hk
  iexact Hr

theorem to_recv (c : Dev nD) : iprop(ownSt m c ∗ afterOwn m c) ⊢ iprop(recvSt m c 0 ∗ afterRecv m c) := by
  unfold afterOwn afterRecv recvSt recvFam
  rw [todoR_zero, doneR_zero, BI.bigSep_empty]
  iintro ⟨Ho, HI, HO, Hs, Hk, Hv, Hr⟩
  isplitl [HI HO Hv]
  · isplitl [HI]; · iexact HI
    isplitl [Hv]; · iexact Hv
    isplitr; · iempintro
    iexact HO
  isplitl [Ho]; · iexact Ho
  isplitl [Hs]; · iexact Hs
  isplitl [Hk]; · iexact Hk
  iexact Hr

theorem to_out (c : Dev nD) : iprop(recvSt m c 7 ∗ afterRecv m c) ⊢ iprop(outSt m c ∗ afterOut m c) := by
  unfold afterRecv afterOut recvSt outSt outFam gotSt
  rw [doneR_all]
  iintro ⟨⟨HI, -, Hg, HO⟩, Ho, Hs, Hk, ⟨Hb, Hf⟩, Hr⟩
  isplitl [HI HO Hb Hf]
  · isplitl [HI]; · iexact HI
    isplitl [Hb]; · iexact Hb
    isplitl [Hf]; · iexact Hf
    iexact HO
  isplitl [Ho]; · iexact Ho
  isplitl [Hs]; · iexact Hs
  isplitl [Hk]; · iexact Hk
  isplitl [Hg]; · iexact Hg
  iexact Hr

theorem to_done (c : Dev nD) (w : (cc0_stg0_0 : Ref sig .tc).ty.Contents (Elt F)) :
    iprop(storedSt m c w ∗ afterOut m c) ⊢ iprop(doneSt m c 0 ∗ afterDone m c w) := by
  unfold afterOut afterDone storedSt doneSt sentSt doneFam
  rw [todoR_zero, doneR_zero, BI.bigSep_empty, bigSep_sep', bigSep_sep']
  iintro ⟨⟨HI, Hb, Hw, HO⟩, Ho, ⟨Hy, Hc⟩, Hk, Hg, Hd⟩
  isplitl [HI HO Hc Hd]
  · isplitl [HI]; · iexact HI
    isplitl [Hc Hd]
    · isplitl [Hd]; · iexact Hd
      iexact Hc
    isplitr; · iempintro
    iexact HO
  isplitl [Ho]; · iexact Ho
  isplitl [Hy]; · iexact Hy
  isplitl [Hk]; · iexact Hk
  isplitl [Hg]; · iexact Hg
  isplitl [Hb]; · iexact Hb
  iexact Hw

theorem to_end (c : Dev nD) (w : (cc0_stg0_0 : Ref sig .tc).ty.Contents (Elt F)) :
    iprop(doneSt m c 7 ∗ afterDone m c w) ⊢ endSt m c w := by
  unfold afterDone doneSt endSt
  rw [doneR_all]
  iintro ⟨⟨HI, -, Hd, HO⟩, Ho, Hy, Hk, Hg, Hb, Hw⟩
  isplitl [Hk]; · iexact Hk
  isplitl [Ho]; · iexact Ho
  isplitl [Hy]; · iexact Hy
  isplitl [Hg]; · iexact Hg
  isplitl [Hd]; · iexact Hd
  isplitl [Hb]; · iexact Hb
  isplitl [Hw]; · iexact Hw
  isplitl [HO]; · iexact HO
  iexact HI

/-! ## The body -/

/-- The result on device `c`: its own product, and the seven received, added nearest sender first. -/
def outAt (c : Dev nD) : (cc0_stg0_0 : Ref sig .tc).ty.Contents (Elt F) :=
  k0_pay13 (k0_pay12 (k0_pay11 (k0_pay10 (ownPart m c) (slab (part m (dn c 0) 0)))
      (slab (part m (dn c 1) 1)) (slab (part m (dn c 2) 2)) (slab (part m (dn c 3) 3)))
    (slab (part m (dn c 4) 4)) (slab (part m (dn c 5) 5))) (slab (part m (dn c 6) 6))

theorem one_int : (1#32 : BitVec 32).toInt = 1 := rfl
theorem two_int : (2#32 : BitVec 32).toInt = 2 := rfl
theorem off2_eq : @k0_off2 = @k0_off3 := rfl

set_option maxHeartbeats 4000000 in
set_option maxRecDepth 65536 in
/-- The body runs from `beginSt` to `endSt`, leaving `outAt` in the result's buffer. -/
theorem sound_body (c : Dev nD) (Kt : PUnit → sProp 𝕄) (hK : endSt m c (outAt m c) ⊢ Kt ⟨⟩) :
    beginSt m c ⊢ wp frame (wpE (defs₀ (F := F)) 𝒱₀ (c : Thread nD τ) none) Set.univ
          (cc0_body xA (Memref.isWhole_whole _) xB (Memref.isWhole_whole _) oM (Memref.isWhole_whole _) aM (Memref.isWhole_whole _) bM (Memref.isWhole_whole _)
            pM (Memref.isWhole_whole _) cM (Memref.isWhole_whole _) cc0_scratch4 cc0_scratch5 cc0_scratch6 cc0_scratch7) Kt := by
  rw [cc0_body_eq_skeleton]
  unfold cc0_body_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel
  simp only [semSignalWord, semWaitWord, Prog.lift, Prog.bind_op, Prog.bind_ret, Prog.pure_eq_ret, wp_deviceId, one_int, two_int]
  refine (to_bar m c).trans ?_
  refine step_bar m c _ _ (dev1_eq c) (dev2_eq c) _ _ barS_eq barS_eq _ ?_
  refine (to_sig m c).trans ?_
  refine step_ready m c 0 _ (dev3_eq c) _ rfl _ ?_
  refine step_ready m c 1 _ (dev4_eq c) _ rfl _ ?_
  refine step_ready m c 2 _ (dev5_eq c) _ rfl _ ?_
  refine step_ready m c 3 _ (dev6_eq c) _ rfl _ ?_
  refine step_ready m c 4 _ (dev7_eq c) _ rfl _ ?_
  refine step_ready m c 5 _ (dev8_eq c) _ rfl _ ?_
  refine step_ready m c 6 _ (dev9_eq c) _ rfl _ ?_
  refine (to_copy m c).trans ?_
  refine step_copy m c _ _ rfl rfl _ ?_
  refine (to_send m c).trans ?_
  refine step_send m c 0 _ (dev10_eq c) _ rfl _ _ rfl rfl _ (fun _ => rfl) _ rfl _ ?_
  refine step_send m c 1 _ (dev11_eq c) _ rfl _ _ rfl rfl _ (fun _ => rfl) _ rfl _ ?_
  refine step_send m c 2 _ (dev12_eq c) _ rfl _ _ rfl rfl _ (fun _ => rfl) _ rfl _ ?_
  refine step_send m c 3 _ (dev13_eq c) _ rfl _ _ rfl rfl _ (fun _ => rfl) _ rfl _ ?_
  refine step_send m c 4 _ (dev14_eq c) _ rfl _ _ rfl rfl _ (fun _ => rfl) _ rfl _ ?_
  refine step_send m c 5 _ (dev15_eq c) _ rfl _ _ rfl rfl _ (fun _ => rfl) _ rfl _ ?_
  refine step_send m c 6 _ (dev16_eq c) _ rfl _ _ rfl rfl _ (fun _ => rfl) _ rfl _ ?_
  refine (to_own m c).trans ?_
  refine step_own m c _ (fun _ => rfl) _ ?_
  refine (to_recv m c).trans ?_
  refine step_recv m c 0 _ rfl _ (by rfl) ?_
  refine step_recv m c 1 _ rfl _ (by rfl) ?_
  refine step_recv m c 2 _ rfl _ (by rfl) ?_
  refine step_recv m c 3 _ rfl _ (by rfl) ?_
  refine step_recv m c 4 _ rfl _ (by rfl) ?_
  refine step_recv m c 5 _ rfl _ (by rfl) ?_
  refine step_recv m c 6 _ rfl _ (by rfl) ?_
  refine (to_out m c).trans ?_
  refine step_out m c _ barS_eq _ _ ?_
  refine (to_done m c _).trans ?_
  refine step_done m c 0 _ rfl _ (by rfl) ?_
  refine step_done m c 1 _ rfl _ (by rfl) ?_
  refine step_done m c 2 _ rfl _ (by rfl) ?_
  refine step_done m c 3 _ rfl _ (by rfl) ?_
  refine step_done m c 4 _ rfl _ (by rfl) ?_
  refine step_done m c 5 _ rfl _ (by rfl) ?_
  refine step_done m c 6 _ rfl _ (by rfl) ?_
  rw [wp_ret]
  exact ((to_end m c _).trans hK).trans fupd_intro

end Cert.ScatterProof

end
-- ==== Proof.Hold.lean ====
/-
# `Hold`: a device's holdings at the kernel's entry and exit

The launch hands the kernel whole buffers and gets them back whole; the body holds the product buffer by the rows of
each device and the landing buffer by slots. The kernel's own semaphores are families over the distances, plus the
entries at index 0 that no operation names.
-/
module

public import proofs.«01_k».proof.Proof.Body

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families, entry 0 apart -/

theorem fam8 {M : Type} [URA M] (Φ : Fin 8 → sProp M) :
    bigSep Finset.univ Φ = iprop(Φ 0 ∗ bigSep Finset.univ fun r : Fin 7 => Φ r.succ) := by
  rw [bigSep_univ_eq_bigSepL [0, 1, 2, 3, 4, 5, 6, 7] (by decide) (by decide) Φ,
    bigSep_univ_eq_bigSepL [0, 1, 2, 3, 4, 5, 6] (by decide) (by decide) fun r : Fin 7 => Φ r.succ]
  rfl

/-- A family over the kernel's own semaphores, array by array. -/
theorem famOwn {M : Type} [URA M] (Φ : Own → sProp M) :
    bigSep Finset.univ Φ = iprop(((Φ (.inl (0, 0)) ∗ bigSep Finset.univ fun r : Fin 7 => Φ (.inl (0, r.succ)))
      ∗ (Φ (.inl (1, 0)) ∗ bigSep Finset.univ fun r : Fin 7 => Φ (.inl (1, r.succ)))
      ∗ (Φ (.inl (2, 0)) ∗ bigSep Finset.univ fun r : Fin 7 => Φ (.inl (2, r.succ))))
      ∗ (Φ (.inr 0) ∗ Φ (.inr 1))) := by
  rw [BI.bigSep_univ_sum, BI.bigSep_fin_two, BI.bigSep_univ_prod,
    bigSep_univ_eq_bigSepL [0, 1, 2] (by decide) (by decide) fun a : Fin 3 => bigSep Finset.univ fun b : Fin 8 => Φ (.inl (a, b))]
  simp only [bigSepL_cons_cons, bigSepL_singleton, fam8]
  rfl

/-! ## The landing buffer, slot by slot -/

theorem slot_set (k : Fin 8) : (slotM k).view.set = (slotRect k).set :=
  (View.set_reshape (cM.access (slotRect k)) _).trans (View.set_slice_whole cc0_scratch3 (slotRect k))

theorem slot_disjoint (k k' : Fin 8) (h : k ≠ k') : Disjoint (slotRect k).set (slotRect k').set :=
  Ring.lead_disjoint (s := S8x64x512) (0 : Fin 3) 1 (fun k : Fin 8 => ![k.val, 0, 0]) S1x64x512.size slot_inb
    (fun b => (Nat.one_mul _).symm) rfl k k' h
theorem slot_cover : Finset.univ.biUnion (fun k : Fin 8 => (slotRect k).set) = Finset.univ :=
  Ring.lead_cover (s := S8x64x512) (0 : Fin 3) 1 (fun k : Fin 8 => ![k.val, 0, 0]) S1x64x512.size slot_inb
    (fun b => (Nat.one_mul _).symm) (by decide) rfl (by decide) rfl

theorem slotAny_eq (c : Dev nD) (k : Fin 8) :
    (slotAny c k : sProp 𝕄) = iprop(∃ f : Buf (Elt F) ((c : Thread nD τ).loc cc0_scratch3), (c : Thread nD τ).loc cc0_scratch3 ↦[(slotRect k).set]{fullShare} f) := by
  unfold slotAny; rw [slot_set]

theorem slot_any (c : Dev nD) (k : Fin 8) (f : Buf (Elt F) ((c : Thread nD τ).loc cc0_scratch3)) :
    ((c : Thread nD τ).loc cc0_scratch3 ↦[(slotRect k).set]{fullShare} f : sProp 𝕄) ⊢ slotAny c k := by
  rw [slotAny_eq]; iintro H; iexists f; iexact H

theorem landing_split (c : Dev nD) :
    (iprop(∃ f : Buf (Elt F) ((c : Thread nD τ).loc cc0_scratch3), (c : Thread nD τ).loc cc0_scratch3 ↦{fullShare} f) : sProp 𝕄)
      ⊢ iprop(slotAny c 0 ∗ bigSep Finset.univ fun r : Fin 7 => slotAny c r.succ) := by
  rw [← fam8 fun k : Fin 8 => (slotAny c k : sProp 𝕄)]
  iintro ⟨%f, H⟩
  ihave H' := (Entails.of_eq (Ring.pointsTo_blocks (ℓ := (c : Thread nD τ).loc cc0_scratch3) (fun k : Fin 8 => (slotRect k).set) slot_disjoint slot_cover f)) $$ H
  iapply (show (bigSep Finset.univ fun k : Fin 8 => (c : Thread nD τ).loc cc0_scratch3 ↦[(slotRect k).set]{fullShare} f : sProp 𝕄)
      ⊢ bigSep Finset.univ fun k : Fin 8 => slotAny c k from
    BI.bigSep_mono fun k _ => slot_any c k f)
  iexact H'

theorem landing_join (c : Dev nD) :
    iprop(slotAny c 0 ∗ bigSep Finset.univ fun r : Fin 7 => slotAny c r.succ)
      ⊢ (iprop(∃ f : Buf (Elt F) ((c : Thread nD τ).loc cc0_scratch3), (c : Thread nD τ).loc cc0_scratch3 ↦{fullShare} f) : sProp 𝕄) := by
  rw [← fam8 fun k : Fin 8 => (slotAny c k : sProp 𝕄)]
  simp only [slotAny_eq]
  exact Ring.pointsTo_blocks_join_exists (ℓ := (c : Thread nD τ).loc cc0_scratch3) (fun k : Fin 8 => (slotRect k).set) slot_disjoint slot_cover (fun _ => Classical.arbitrary _)

/-! ## The product buffer, by the rows of each device -/

theorem rows_inb (d : Fin 8) : ∀ a, (![64 * d.val, 0] : Fin 2 → ℕ) a + S64x512.size a ≤ S512x512.size a := by
  revert d; decide
/-- The rows of device `d`. -/
abbrev rowsOf (d : Fin 8) : Rect S512x512 := Rect.unit (s := S512x512) ![64 * d.val, 0] S64x512.size (rows_inb d)

theorem rows_disjoint (k k' : Fin 8) (h : k ≠ k') : Disjoint (rowsOf k).set (rowsOf k').set :=
  Ring.lead_disjoint (s := S512x512) (0 : Fin 2) 64 (fun k : Fin 8 => ![64 * k.val, 0]) S64x512.size rows_inb
    (fun b => rfl) rfl k k' h
theorem rows_cover : Finset.univ.biUnion (fun k : Fin 8 => (rowsOf k).set) = Finset.univ :=
  Ring.lead_cover (s := S512x512) (0 : Fin 2) 64 (fun k : Fin 8 => ![64 * k.val, 0]) S64x512.size rows_inb
    (fun b => rfl) (by decide) rfl (by decide) rfl

theorem off5_eq (c : Dev nD) : k0_off5 c = ![64 * c.val, 0] := by revert c; decide +kernel

theorem unit_set_congr {s : Shape} {o o' size : Fin s.rank → ℕ} (h : o = o') (hb : ∀ a, o a + size a ≤ s.size a) (hb' : ∀ a, o' a + size a ≤ s.size a) :
    (Rect.unit (s := s) o size hb).set = (Rect.unit (s := s) o' size hb').set := by subst h; rfl
theorem row_set (c : Dev nD) (r : Fin 7) : (pRow c r).view.set = (rowsOf (up c r)).set :=
  (View.set_slice_whole cc0_scratch2 (pRect c r)).trans (unit_set_congr (off3_eq c r) _ _)
theorem own_set (c : Dev nD) : (pOwn c).view.set = (rowsOf c).set :=
  (View.set_slice_whole cc0_scratch2 (pOwnRect c)).trans (unit_set_congr (off5_eq c) _ _)

/-- The rows of device `d`, at any contents. -/
def rowsAny (c : Dev nD) (d : Fin 8) : sProp 𝕄 :=
  iprop(∃ f : Buf (Elt F) ((c : Thread nD τ).loc cc0_scratch2), (c : Thread nD τ).loc cc0_scratch2 ↦[(rowsOf d).set]{fullShare} f)
theorem rows_any (c : Dev nD) (d : Fin 8) (f : Buf (Elt F) ((c : Thread nD τ).loc cc0_scratch2)) :
    ((c : Thread nD τ).loc cc0_scratch2 ↦[(rowsOf d).set]{fullShare} f : sProp 𝕄) ⊢ rowsAny c d := by
  unfold rowsAny; iintro H; iexists f; iexact H
theorem rowAny_eq (c : Dev nD) (r : Fin 7) : (rowAny c r : sProp 𝕄) = rowsAny c (up c r) := by
  unfold rowAny rowsAny; rw [row_set]
theorem ownAny_eq (c : Dev nD) : (ownAny c : sProp 𝕄) = rowsAny c c := by
  unfold ownAny rowsAny; rw [own_set]

set_option backward.proofsInPublic true in
/-- The devices in the order of their distance ahead of `c`. -/
def around (c : Dev nD) : Fin 8 ≃ Dev nD :=
  ⟨fun k => ⟨(c.val + k.val) % 8, Nat.mod_lt _ (by decide)⟩, fun d => ⟨(d.val + (8 - c.val)) % 8, Nat.mod_lt _ (by decide)⟩,
    by revert c; decide +kernel, by revert c; decide +kernel⟩
theorem around_zero (c : Dev nD) : around c 0 = c := by revert c; decide +kernel
theorem around_succ (c : Dev nD) (r : Fin 7) : around c r.succ = up c r := by revert c r; decide +kernel

theorem rows_around (c : Dev nD) :
    (bigSep Finset.univ fun d : Dev nD => (rowsAny c d : sProp 𝕄)) = iprop(ownAny c ∗ bigSep Finset.univ fun r : Fin 7 => rowAny c r) := by
  rw [BI.bigSep_univ_equiv (around c) fun d : Dev nD => (rowsAny c d : sProp 𝕄), fam8, around_zero, ownAny_eq]
  rw [BI.bigSep_congr fun r _ => show (rowsAny c (around c (Fin.succ r)) : sProp 𝕄) = rowAny c r from by rw [around_succ, rowAny_eq]]

theorem product_split (c : Dev nD) :
    (iprop(∃ f : Buf (Elt F) ((c : Thread nD τ).loc cc0_scratch2), (c : Thread nD τ).loc cc0_scratch2 ↦{fullShare} f) : sProp 𝕄)
      ⊢ iprop(ownAny c ∗ bigSep Finset.univ fun r : Fin 7 => rowAny c r) := by
  rw [← rows_around]
  iintro ⟨%f, H⟩
  ihave H' := (Entails.of_eq (Ring.pointsTo_blocks (ℓ := (c : Thread nD τ).loc cc0_scratch2) (fun k : Fin 8 => (rowsOf k).set) rows_disjoint rows_cover f)) $$ H
  iapply (show (bigSep Finset.univ fun k : Fin 8 => (c : Thread nD τ).loc cc0_scratch2 ↦[(rowsOf k).set]{fullShare} f : sProp 𝕄)
      ⊢ bigSep Finset.univ fun k : Fin 8 => rowsAny c k from
    BI.bigSep_mono fun k _ => rows_any c k f)
  iexact H'

theorem product_join (c : Dev nD) :
    iprop(ownAny c ∗ bigSep Finset.univ fun r : Fin 7 => rowAny c r)
      ⊢ (iprop(∃ f : Buf (Elt F) ((c : Thread nD τ).loc cc0_scratch2), (c : Thread nD τ).loc cc0_scratch2 ↦{fullShare} f) : sProp 𝕄) := by
  rw [← rows_around]
  unfold rowsAny
  exact Ring.pointsTo_blocks_join_exists (ℓ := (c : Thread nD τ).loc cc0_scratch2) (fun k : Fin 8 => (rowsOf k).set) rows_disjoint rows_cover (fun _ => Classical.arbitrary _)

/-! ## The entry -/

/-- The tokens of the duties device `c` pays. -/
def payToks (c : Dev nD) : sProp 𝕄 :=
  iprop((dutyTok ER (barCell (up c 0)) 0 false ∗ dutyTok ER (barCell (dn c 0)) 0 true)
    ∗ (bigSep Finset.univ fun r : Fin 7 => dutyTok ER (readyCell (dn c r) r) 0 false)
    ∗ (bigSep Finset.univ fun r : Fin 7 => dutyTok ER (sendCell c r) 0 false)
    ∗ (bigSep Finset.univ fun r : Fin 7 => dutyTok ER (recvCell (up c r) r) 0 false)
    ∗ (dutyTok ER (inACell c) 0 false ∗ dutyTok ER (inBCell c) 0 false))
/-- Its positions at its own cells. -/
def posns (c : Dev nD) : sProp 𝕄 := bigSep Finset.univ fun k : CIx => atPos ER (kcell (c, k)) 0 ∅ 0
/-- The credits it waits with. -/
def credits (c : Dev nD) : sProp 𝕄 :=
  iprop(cred (tallyAt (barCell c) () 2) ∗ (bigSep Finset.univ fun r : Fin 7 => cred (tallyAt (readyCell c r) () 1))
    ∗ bigSep Finset.univ fun r : Fin 7 => cred (tallyAt (recvCell c r) () N))
/-- The two arguments as launched. -/
def argsAt (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1)))
/-- The four scratch buffers, at any contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

def start (c : Dev nD) : sProp 𝕄 :=
  iprop((records m ∗ posns c ∗ payToks c) ∗ credits c ∗ levAts L lv ∗ argsAt m c)

/-- What no operation of the body touches: slot 0, and the entries at index 0 of the three arrays. -/
def spare (c : Dev nD) : sProp 𝕄 :=
  iprop(slotAny c 0 ∗ atPos ER (kcell (c, .inr (.inl (0, 0)))) 0 ∅ 0 ∗ atPos ER (kcell (c, .inr (.inl (1, 0)))) 0 ∅ 0
    ∗ atPos ER (kcell (c, .inr (.inl (2, 0)))) 0 ∅ 0)

theorem posns_eq (c : Dev nD) : (posns c : sProp 𝕄) = iprop(atPos ER (barCell c) 0 ∅ 0
    ∗ ((atPos ER (kcell (c, .inr (.inl (0, 0)))) 0 ∅ 0 ∗ bigSep Finset.univ fun r : Fin 7 => atPos ER (readyCell c r) 0 ∅ 0)
      ∗ (atPos ER (kcell (c, .inr (.inl (1, 0)))) 0 ∅ 0 ∗ bigSep Finset.univ fun r : Fin 7 => atPos ER (sendCell c r) 0 ∅ 0)
      ∗ (atPos ER (kcell (c, .inr (.inl (2, 0)))) 0 ∅ 0 ∗ bigSep Finset.univ fun r : Fin 7 => atPos ER (recvCell c r) 0 ∅ 0))
      ∗ (atPos ER (inACell c) 0 ∅ 0 ∗ atPos ER (inBCell c) 0 ∅ 0)) := by
  unfold posns
  rw [BI.bigSep_univ_sum, famOwn, Finset.univ_unique, BI.bigSep_singleton]
  rfl

theorem entry (c : Dev nD) :
    iprop((start m c ∗ scratch c) ∗ owing c (O₀ c)
        ∗ (∃ f : Buf (Elt F) ((c : Thread nD τ).loc cc0_stg0_0), (c : Thread nD τ).loc cc0_stg0_0 ↦{fullShare} f))
      ⊢ iprop(beginSt m c ∗ spare c) := by
  unfold start scratch credits payToks argsAt beginSt barSt sigFam copyFam sendFam recvFam outFam doneFam spare
  rw [posns_eq]
  simp only [bigSep_sep']
  iintro ⟨⟨⟨⟨#HI, ⟨HaB, ⟨⟨H0, HaY⟩, ⟨H1, HaS⟩, ⟨H2, HaV⟩⟩, HaI⟩, HtB, HtY, HtS, HtV, HtI⟩, ⟨HcB, HcY, HcV⟩, Hl, ⟨Hx, Hy⟩⟩, Hs0, Hs1, Hs2, Hs3⟩, HO, Hout⟩
  ihave Hp := (product_split (F := F) c) $$ Hs2
  ihave Hc := (landing_split (F := F) c) $$ Hs3
  icases Hp with ⟨Hown, Hrows⟩
  icases Hc with ⟨Hslot, Hslots⟩
  isplitr [H0 H1 H2 Hslot]
  · isplitl [HtB HO]
    · isplitr; · iexact HI
      isplitl [HtB]; · iexact HtB
      iexact HO
    isplitl [Hl]; · iexact Hl
    isplitl [HtY Hslots]
    · isplitl [HtY]; · iexact HtY
      iexact Hslots
    isplitl [HtI HaI Hx Hy Hs0 Hs1]
    · isplitl [HtI]; · iexact HtI
      isplitl [HaI]; · iexact HaI
      isplitl [Hx]; · iexact Hx
      isplitl [Hy]; · iexact Hy
      isplitl [Hs0]; · iexact Hs0
      iexact Hs1
    isplitl [Hrows HaY HcY HtS HtV]
    · isplitl [Hrows]; · iexact Hrows
      isplitl [HaY]; · iexact HaY
      isplitl [HcY]; · iexact HcY
      isplitl [HtS]; · iexact HtS
      iexact HtV
    isplitl [Hown]; · iexact Hown
    isplitl [HaV HcV]
    · isplitl [HaV]; · iexact HaV
      iexact HcV
    isplitl [HaB HcB Hout]
    · isplitl [HaB HcB]
      · isplitl [HaB]; · iexact HaB
        iexact HcB
      iexact Hout
    iexact HaS
  isplitl [Hslot]; · iexact Hslot
  isplitl [H0]; · iexact H0
  isplitl [H1]; · iexact H1
  iexact H2

/-! ## The exit -/

/-- Every semaphore of the kernel's own at zero, and the barrier. -/
def zeros (c : Dev nD) : sProp 𝕄 :=
  iprop((bigSep Finset.univ fun k : Own => semVal ((c : Thread nD τ), osem k) 0) ∗ semVal (barCell c) 0)

def finish (c : Dev nD) : sProp 𝕄 := iprop(argsAt m c ∗ zeros c ∗ scratch c)

/-- A cell the schedule gives no duty closes at once. -/
theorem close_unused (c : Dev nD) (k : CIx) (h : dutiesOf (csem k) = ∅) :
    iprop(records m ∗ atPos ER (kcell (c, k)) 0 ∅ 0) ⊢ |={Set.univ}=> semVal (kcell (c, k)) 0 := by
  iintro ⟨#HI, Hat⟩
  ihave #H := (record_at m c k) $$ HI
  unfold record
  icases H with ⟨⟨%κ, #Hg⟩, -⟩
  iapply (Rounds.cell_close ER (sched m) (Set.mem_univ κ) (fun h => h) (R := 0) (fun n _ => by
    rcases Nat.eq_zero_or_pos n with rfl | hn
    · exact (duties_tc m c (csem k)).trans h
    · exact duties_later m _ n hn))
  isplitr; · iexact Hg
  iexact Hat

theorem exit (c : Dev nD) (w : (cc0_stg0_0 : Ref sig .tc).ty.Contents (Elt F)) :
    iprop(endSt m c w ∗ spare c) ⊢ |={Set.univ}=> iprop(finish m c ∗ owing c 0 ∗ ((c : Thread nD τ).loc cc0_stg0_0 ↦{fullShare} w)) := by
  unfold endSt spare keptSt ownSt gotSt inBPay finish argsAt zeros scratch
  rw [famOwn]
  simp only [bigSep_sep']
  iintro ⟨⟨⟨⟨HzA, HzB⟩, Hx, Hs1, Hy⟩, ⟨Hs0, Hown⟩, HzY, ⟨HzV, Hslots⟩, ⟨HzS, Hrows⟩, Hzb, Hw, HO, #HI⟩, Hslot, H0, H1, H2⟩
  imod (close_unused m c (.inr (.inl (0, 0))) (by decide)) $$ [H0] with H0
  · isplitr; · iexact HI
    iexact H0
  imod (close_unused m c (.inr (.inl (1, 0))) (by decide)) $$ [H1] with H1
  · isplitr; · iexact HI
    iexact H1
  imod (close_unused m c (.inr (.inl (2, 0))) (by decide)) $$ [H2] with H2
  · isplitr; · iexact HI
    iexact H2
  ihave Hs2 := (product_join (F := F) c) $$ [Hown Hrows]
  · isplitl [Hown] <;> iassumption
  ihave Hs3 := (landing_join (F := F) c) $$ [Hslot Hslots]
  · isplitl [Hslot] <;> iassumption
  imodintro
  isplitr [HO Hw]
  · isplitl [Hx Hy]
    · isplitl [Hx] <;> iassumption
    isplitl [HzA HzB HzY HzV HzS Hzb H0 H1 H2]
    · isplitr [Hzb]
      · isplitr [HzA HzB]
        · isplitl [H0 HzY]
          · isplitl [H0]; · iexact H0
            iexact HzY
          isplitl [H1 HzS]
          · isplitl [H1]; · iexact H1
            iexact HzS
          isplitl [H2]; · iexact H2
          iexact HzV
        isplitl [HzA]; · iexact HzA
        iexact HzB
      iexact Hzb
    isplitl [Hs0]; · iexists _; iexact Hs0
    isplitl [Hs1]; · iexists _; iexact Hs1
    isplitl [Hs2]; · iexact Hs2
    iexact Hs3
  isplitl [HO]; · iexact HO
  iexact Hw

end Cert.ScatterProof

end
-- ==== Proof.Run.lean ====
/-
# `Run`: the launch, and the program's run

The body's theorem, put under the pipeline's obligation for its one grid point; the launch's resources, dealt so that each
device holds its own positions and the tokens of the duties it pays on other devices' cells; and the run of the whole
program: every device's result array at the sum its kernel stored, the arguments as they were, every counter at zero.
-/
module

public import proofs.«01_k».proof.Proof.Hold
public import Idealize.ShloMosaic.Lib.Pipeline.CollectiveSegs

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body under the pipeline -/

/-- The pipeline's proof data: the result's staging buffer ends at the body's sum, and the body is entered owing every
    signal and copy and left owing nothing. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => iprop(start m c ∗ scratch c)
    | ⟨_ + 1, _⟩ => finish m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- The result's staging buffer at `X`, as the pipeline states it. -/
def staged (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0 ↦{fullShare} f))

def bodyPre (c : Dev nD) : sProp 𝕄 :=
  iprop((start m c ∗ scratch c) ∗ (dats m 0 c).owesAt () t0_0.castSucc ∗ (∃ d, staged c ((dats m 0 c).before (0 : Fin 1) t0_0 d)))
def bodyPost (c : Dev nD) : sProp 𝕄 :=
  iprop(finish m c ∗ (dats m 0 c).owesAt () t0_0.succ ∗ staged c (outAt m c))

theorem pre_entry (c : Dev nD) : bodyPre m c ⊢ iprop(beginSt m c ∗ spare c) := by
  unfold bodyPre Dat.owesAt Pipeline.owesWithin staged
  rw [show (dats m 0 c).owed t0_0.castSucc = O₀ c from rfl]
  iintro ⟨Hs, ⟨%W, %hW, HO⟩, %d, %f, %hf, Hout⟩
  iapply (entry m c)
  isplitl [Hs]; · iexact Hs
  isplitl [HO]; · unfold owing; iexists W; iexact HO
  iexists f; iexact Hout

theorem exit_post (c : Dev nD) : iprop(endSt m c (outAt m c) ∗ spare c) ⊢ |={Set.univ}=> bodyPost m c := by
  unfold bodyPost Dat.owesAt Pipeline.owesWithin staged
  rw [show (dats m 0 c).owed t0_0.succ = 0 from rfl]
  iintro H
  imod (exit m c (outAt m c)) $$ H with ⟨Hf, HO, Hw⟩
  unfold owing
  icases HO with ⟨%W, HO⟩
  imodintro
  isplitl [Hf]; · iexact Hf
  isplitl [HO]
  · iexists W
    isplitr; · ipureintro; exact fun _ _ => Or.inl trivial
    iexact HO
  iexists _
  isplitr; · (ipureintro; rfl)
  iexact Hw

set_option maxRecDepth 4000 in
/-- The body keeps the pipeline's obligation at its one grid point. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ (c : Thread nD τ) none) Set.univ
    (cc0_body xA (Memref.isWhole_whole _) xB (Memref.isWhole_whole _) oM (Memref.isWhole_whole _) aM (Memref.isWhole_whole _)
      bM (Memref.isWhole_whole _) pM (Memref.isWhole_whole _) cM (Memref.isWhole_whole _) cc0_scratch4 cc0_scratch5 cc0_scratch6 cc0_scratch7)
    (fun _ => bodyPost m c)
  refine (pre_entry m c).trans ?_
  refine (sep_mono_left (sound_body m c (fun _ => endSt m c (outAt m c)) (BI.Entails.refl _))).trans ?_
  refine (wp_frame_r _ _ _).trans ?_
  exact (wp_mono _ _ _ fun _ => exit_post m c).trans (wp_fupd _ _ _ _ _)

/-! ## The launch's resources -/

theorem ownSemFacts : Pipeline.OwnSemFacts cfg0.spec osem := by decide
theorem share_eq (c : Dev nD) (w : Fin cfg0.W) : (dats m 0 c).share w = fullShare := by unfold Dat.share; split <;> rfl

theorem csem_injective : Function.Injective csem := by decide +kernel
theorem kcell_injective : Function.Injective (kcell : Dev nD × CIx → GSem nD τ sig) := fun a b h =>
  Prod.ext (congrArg (fun g : GSem nD τ sig => g.1.1) h) (csem_injective (congrArg Prod.snd h))
def ringCells : Finset (GSem nD τ sig) := Finset.univ.map ⟨kcell, kcell_injective⟩

/-- A duty of every cell, and the barrier's second one. -/
def tokOf (x : Dev nD × (Unit ⊕ CIx)) : GSem nD τ sig × ℕ × Bool :=
  match x.2 with
  | .inl _ => (barCell x.1, 0, true)
  | .inr k => (kcell (x.1, k), 0, false)
theorem tokOf_injective : Function.Injective tokOf := by
  rintro ⟨c, _ | k⟩ ⟨c', _ | k'⟩ h
  · exact Prod.ext (congrArg (fun y : GSem nD τ sig × ℕ × Bool => y.1.1.1) h) rfl
  · exact absurd (congrArg (fun y : GSem nD τ sig × ℕ × Bool => y.2.2) h) Bool.noConfusion
  · exact absurd (congrArg (fun y : GSem nD τ sig × ℕ × Bool => y.2.2) h) Bool.noConfusion
  · have hk : (c, k) = (c', k') := kcell_injective (congrArg (fun y : GSem nD τ sig × ℕ × Bool => y.1) h)
    exact Prod.ext (congrArg (fun z : Dev nD × CIx => z.1) hk) (congrArg (fun z : Dev nD × CIx => (Sum.inr z.2 : Unit ⊕ CIx)) hk)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells. -/
def cellToks (c : Dev nD) : sProp 𝕄 :=
  iprop(dutyTok ER (barCell c) 0 true ∗ bigSep Finset.univ fun k : CIx => dutyTok ER (kcell (c, k)) 0 false)
/-- What the launch makes for device `c`, -/
def G (c : Dev nD) : sProp 𝕄 :=
  iprop((bigSep Finset.univ fun k : CIx => roundState ER (sched m) (kcell (c, k)) 0)
    ∗ (bigSep Finset.univ fun k : CIx => reached ER (kcell (c, k)) 0) ∗ posns c ∗ cellToks c)
/-- and what the device holds once the cells are set up. -/
def G' (c : Dev nD) : sProp 𝕄 := iprop(records m ∗ posns c ∗ payToks c)

theorem over_cells (Φ : GSem nD τ sig → sProp 𝕄) :
    bigSep ringCells Φ = bigSep Finset.univ fun c : Dev nD => bigSep Finset.univ fun k : CIx => Φ (kcell (c, k)) := by
  unfold ringCells; rw [bigSep_map, bigSep_univ_prod]; rfl
theorem over_toks :
    bigSep ringToks (fun x => (dutyTok ER x.1 x.2.1 x.2.2 : sProp 𝕄)) = bigSep Finset.univ fun c : Dev nD => cellToks c := by
  unfold ringToks; rw [bigSep_map, bigSep_univ_prod]
  exact bigSep_congr fun c _ => by
    unfold cellToks; rw [bigSep_univ_sum, Finset.univ_unique, bigSep_singleton]; rfl

theorem fund_cells : BI.own (ER (initOf ringCells ringToks)) ⊢ (|==> bigSep Finset.univ (G m) : sProp 𝕄) := by
  iintro HX
  imod (Rounds.fund ER (sched m) ringCells ringToks) $$ HX with ⟨Hst, Hr, Hat, Htok⟩
  imodintro
  ihave Hst := (Entails.of_eq (over_cells fun g => roundState ER (sched m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G posns; simp only [bigSep_sep']
  isplitl [Hst]; · iexact Hst
  isplitl [Hr]; · iexact Hr
  isplitl [Hat]; · iexact Hat
  iexact Htok

theorem ownSems_eq (c : Dev nD) : (Pipeline.ownSems0 (Ix := Unit) (Name := ℕ) (U := UU) (Lvl := ℕ) (Val := Elt F) (τ := τ) osem c : sProp 𝕄)
    = bigSep Finset.univ fun k : Own => semVal ((c : Thread nD τ), osem k) 0 := rfl
theorem barrier_eq (c : Dev nD) : (unscopedSems0 c : sProp 𝕄) = semVal (barCell c) 0 := by
  unfold unscopedSems0; rw [bigSep_eq_bigSepL_of_eq [SemLoc.reg barS] (by decide) (by decide)]; rfl
theorem zeros_eq (c : Dev nD) : (zeros c : sProp 𝕄)
    = iprop(Pipeline.ownSems0 (Ix := Unit) (Name := ℕ) (U := UU) (Lvl := ℕ) (Val := Elt F) (τ := τ) osem c ∗ unscopedSems0 c) := by
  rw [barrier_eq]; rfl
theorem counters_eq (c : Dev nD) : (bigSep Finset.univ fun k : CIx => (semVal (kcell (c, k)) 0 : sProp 𝕄))
    = iprop(unscopedSems0 c ∗ Pipeline.ownSems0 (Ix := Unit) (Name := ℕ) (U := UU) (Lvl := ℕ) (Val := Elt F) (τ := τ) osem c) := by
  rw [barrier_eq, ownSems_eq, bigSep_univ_sum, Finset.univ_unique, bigSep_singleton]; rfl

/-- One device's cells, each put under its invariant. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => record m (kcell (c, k))) ∗ posns c ∗ cellToks c) := by
  unfold G record
  simp only [bigSep_sep']
  iintro ⟨Hos, Hus, Hst, Hr, Hat, Htok⟩
  ihave Hv := (Entails.of_eq (counters_eq (F := F) c).symm) $$ [Hos Hus]
  · isplitl [Hus] <;> iassumption
  imod (show iprop((bigSep Finset.univ fun k : CIx => semVal (kcell (c, k)) 0) ∗ bigSep Finset.univ fun k : CIx => roundState ER (sched m) (kcell (c, k)) 0)
      ⊢ (|={Set.univ}=> bigSep Finset.univ fun k : CIx => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hr]
  · isplitl [Hinv]; · iexact Hinv
    iexact Hr
  isplitl [Hat]; · iexact Hat
  iexact Htok

/-- A doubly indexed family, its first index moved by a permutation for each value of the second. -/
theorem moved {M : Type} [URA M] (e : Fin 7 → (Dev nD ≃ Dev nD)) (Φ : Dev nD → Fin 7 → sProp M) :
    (bigSep Finset.univ fun c : Dev nD => bigSep Finset.univ fun r : Fin 7 => Φ c r)
      = bigSep Finset.univ fun c : Dev nD => bigSep Finset.univ fun r : Fin 7 => Φ (e r c) r := by
  rw [← bigSep_univ_prod (fun p : Dev nD × Fin 7 => Φ p.1 p.2), ← bigSep_univ_prod (fun p : Dev nD × Fin 7 => Φ (e p.2 p.1) p.2),
    bigSep_univ_equiv (⟨fun p => (e p.2 p.1, p.2), fun p => ((e p.2).symm p.1, p.2),
      fun p => Prod.ext ((e p.2).symm_apply_apply p.1) rfl, fun p => Prod.ext ((e p.2).apply_symm_apply p.1) rfl⟩ : Dev nD × Fin 7 ≃ Dev nD × Fin 7)
      (fun p : Dev nD × Fin 7 => Φ p.1 p.2)]
  rfl

theorem cellToks_eq (c : Dev nD) : (cellToks c : sProp 𝕄) = iprop(dutyTok ER (barCell c) 0 true ∗ dutyTok ER (barCell c) 0 false
    ∗ ((dutyTok ER (kcell (c, .inr (.inl (0, 0)))) 0 false ∗ bigSep Finset.univ fun r : Fin 7 => dutyTok ER (readyCell c r) 0 false)
      ∗ (dutyTok ER (kcell (c, .inr (.inl (1, 0)))) 0 false ∗ bigSep Finset.univ fun r : Fin 7 => dutyTok ER (sendCell c r) 0 false)
      ∗ (dutyTok ER (kcell (c, .inr (.inl (2, 0)))) 0 false ∗ bigSep Finset.univ fun r : Fin 7 => dutyTok ER (recvCell c r) 0 false))
      ∗ (dutyTok ER (inACell c) 0 false ∗ dutyTok ER (inBCell c) 0 false)) := by
  unfold cellToks
  rw [bigSep_univ_sum, famOwn, Finset.univ_unique, bigSep_singleton]
  rfl

/-- Every token goes to the device that pays its duty. -/
theorem toks_dealt : (bigSep Finset.univ fun c : Dev nD => (cellToks c : sProp 𝕄)) ⊢ bigSep Finset.univ fun c : Dev nD => payToks c := by
  unfold payToks
  simp only [cellToks_eq, bigSep_sep']
  rw [bigSep_univ_equiv (turn 0) (fun c : Dev nD => (dutyTok ER (barCell c) 0 false : sProp 𝕄)),
    bigSep_univ_equiv (turn 0).symm (fun c : Dev nD => (dutyTok ER (barCell c) 0 true : sProp 𝕄)),
    moved (fun r => (turn r).symm) (fun c r => (dutyTok ER (readyCell c r) 0 false : sProp 𝕄)),
    moved turn (fun c r => (dutyTok ER (recvCell c r) 0 false : sProp 𝕄))]
  iintro ⟨HbT, HbF, ⟨⟨-, HY⟩, ⟨-, HS⟩, -, HV⟩, HA, HB⟩
  isplitl [HbT HbF]
  · isplitl [HbF]; · iexact HbF
    iexact HbT
  isplitl [HY]; · iexact HY
  isplitl [HS]; · iexact HS
  isplitl [HV]; · iexact HV
  isplitl [HA]; · iexact HA
  iexact HB

theorem regroup :
    (bigSep Finset.univ fun c : Dev nD => iprop((bigSep Finset.univ fun k : CIx => record m (kcell (c, k))) ∗ posns c ∗ cellToks c) : sProp 𝕄)
      ⊢ bigSep Finset.univ (G' m) := by
  rw [bigSep_sep', bigSep_sep', ← bigSep_univ_prod (fun ck : Dev nD × CIx => record m (kcell ck))]
  iintro ⟨#HI, Hat, Htok⟩
  ihave Htk := (toks_dealt (F := F)) $$ Htok
  iapply (BI.bigSep_with_persistent (S := Finset.univ) (R := records m) (Φ := fun c : Dev nD => iprop(posns c ∗ payToks c)) (Ψ := G' m)
    fun c _ => by unfold G'; exact BI.Entails.refl _)
  isplitr; · unfold records; iexact HI
  rw [bigSep_sep']
  isplitl [Hat]; · iexact Hat
  iexact Htk

/-- All devices' cells set up at once. -/
theorem set_up : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-- What every device owes at launch is, on the other side, the credit its own waits take. -/
theorem launch_credits (c : Dev nD) : (Pipeline.launchCred O₀ c : sProp 𝕄) ⊢ credits c := by
  show (Pipeline.launchCred (fun d => (((∑ r ∈ todoR 0, tallyAt (recvCell (up d r) r) () N) + ∑ r ∈ todoR 0, tallyAt (readyCell (dn d r) r) () 1)
    + tallyAt (barCell (dn d 0)) () 1) + tallyAt (barCell (up d 0)) () 1) c : sProp 𝕄) ⊢ credits c
  rw [Pipeline.launchCred_add, Pipeline.launchCred_add, Pipeline.launchCred_add,
    Pipeline.launchCred_sum (todoR 0) (fun r d => tallyAt (recvCell (up d r) r) () N),
    Pipeline.launchCred_sum (todoR 0) (fun r d => tallyAt (readyCell (dn d r) r) () 1)]
  rw [todoR_zero]
  unfold credits
  iintro ⟨⟨⟨HV, HY⟩, HD⟩, HU⟩
  ihave HD := (Pipeline.launchCred_tallyAt (.reg barS) (fun d => dn d 0) (fun d => up d 0) (fun d => dn_up d 0) (fun d => up_dn d 0) () 1 c) $$ HD
  ihave HU := (Pipeline.launchCred_tallyAt (.reg barS) (fun d => up d 0) (fun d => dn d 0) (fun d => up_dn d 0) (fun d => dn_up d 0) () 1 c) $$ HU
  isplitl [HD HU]
  · rw [show (tallyAt (barCell c) () 2 : CellTallies nD τ sig Unit) = tallyAt (barCell c) () 1 + tallyAt (barCell c) () 1 from
      (tallyAt_add (barCell c) () 1 1).symm]
    iapply (cred_add _ _).2
    isplitl [HD] <;> iassumption
  isplitl [HY]
  · iapply (show (bigSep Finset.univ fun r : Fin 7 => Pipeline.launchCred (fun d => tallyAt (readyCell (dn d r) r) () 1) c : sProp 𝕄)
      ⊢ bigSep Finset.univ fun r : Fin 7 => cred (tallyAt (readyCell c r) () 1) from bigSep_mono fun r _ =>
        Pipeline.launchCred_tallyAt (.reg (readyS r)) (fun d => dn d r) (fun d => up d r) (fun d => dn_up d r) (fun d => up_dn d r) () 1 c)
    iexact HY
  iapply (show (bigSep Finset.univ fun r : Fin 7 => Pipeline.launchCred (fun d => tallyAt (recvCell (up d r) r) () N) c : sProp 𝕄)
    ⊢ bigSep Finset.univ fun r : Fin 7 => cred (tallyAt (recvCell c r) () N) from bigSep_mono fun r _ =>
      Pipeline.launchCred_tallyAt (.dma (recvS r)) (fun d => up d r) (fun d => dn d r) (fun d => up_dn d r) (fun d => dn_up d r) () N c)
  iexact HV

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' argsAt
  iintro ⟨Hargs, Hlev, Hcr, -, HG⟩
  ihave Hc := (launch_credits (F := F) c) $$ Hcr
  imodintro
  isplitl
  · isplitl [HG]; · iexact HG
    isplitl [Hc]; · iexact Hc
    isplitl [Hlev]; · iexact Hlev
    iexact Hargs
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

theorem phi_last (c : Dev nD) :
    (dats m 0 c).Φ (Fin.last cfg0.N) ⊢ iprop((unscopedSems0 c ∗ argsAt m c) ∗ Pipeline.ownSems0 osem c ∗ Pipeline.scopedRest cfg0.spec c) := by
  rw [show (dats m 0 c).Φ (Fin.last cfg0.N) = finish m c from rfl, scopedRest0_eq]
  unfold finish scratch
  rw [zeros_eq]
  iintro ⟨Hargs, ⟨Hos, Hus⟩, Hr⟩
  isplitl [Hus Hargs]
  · isplitl [Hus] <;> iassumption
  isplitl [Hos]; · iexact Hos
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_launch c _ (by fin_cases w <;> fin_cases s <;> decide)
    · rw [show (dats m 0 c).owed ⟨_ + 1, ht⟩ = 0 from rfl, MayWait_zero]
      iintro -
      iempintro

/-- The result array of device `c` after the run. -/
def finalOut (c : Dev nD) : Buf (Elt F) ((cfg0.win (0 : Fin 1)).arr.view.loc (c : Thread nD τ)) := (dats m 0 c).arrAt (0 : Fin 1) cfg0.N

/-- The end of a run on device `c`: the result array written, the arguments as launched. -/
def Done (c : Dev nD) (s : MemSt nD τ sig (Elt F)) : Prop :=
  s.mem ((c.tc : Thread nD τ).loc main_v1) = finalOut m c
  ∧ s.mem ((c.tc : Thread nD τ).loc main_arg0) = m ((c.tc : Thread nD τ).loc main_arg0)
  ∧ s.mem ((c.tc : Thread nD τ).loc main_arg1) = m ((c.tc : Thread nD τ).loc main_arg1)

/-- What is read off the memory at the end: the barrier's counter, and the two arguments. -/
theorem end_read (c : Dev nD) (s' : Phys nD τ sig (Elt F)) :
    iprop((unscopedSems0 c ∗ argsAt m c) ∗ emp ∗ SI s') ⊢ (|={Set.univ}=> iprop(⌜(∀ sm : SemLoc sig, sm.isScoped .tc = false → s'.mem.sem ((c.tc : Thread nD τ), sm) = 0)
      ∧ s'.mem.mem ((c.tc : Thread nD τ).loc main_arg0) = m ((c.tc : Thread nD τ).loc main_arg0)
      ∧ s'.mem.mem ((c.tc : Thread nD τ).loc main_arg1) = m ((c.tc : Thread nD τ).loc main_arg1)⌝ ∗ SI s') : sProp 𝕄) := by
  unfold argsAt
  iintro ⟨⟨Hu, Hx, Hy⟩, -, HSI⟩
  ihave %hx := (SI_pointsTo_agree (st := s') (ℓ := (c.tc : Thread nD τ).loc main_arg0) (I := Finset.univ)) $$ [HSI Hx]
  · isplitl [HSI] <;> iassumption
  ihave %hy := (SI_pointsTo_agree (st := s') (ℓ := (c.tc : Thread nD τ).loc main_arg1) (I := Finset.univ)) $$ [HSI Hy]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ i), funext fun i => hy i (Finset.mem_univ i)⟩
  iexact HSI

set_option maxRecDepth 8000 in
/-- From any memory with every counter at zero, for any float values: every weakly fair execution of the eight devices'
    programs terminates, and every final state has each device's result array at the computed contents, the arguments
    unchanged and every counter at zero. -/
theorem run_main : θ_run defs (onTc (τ := τ) (main (F := F))) (⟨m, fun _ => 0, ρ⟩ : MemSt nD τ sig (Elt F))
    (fun r => (∀ c : Dev nD, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := set_up m)
    (hA := fun _ _ => rfl) (hpf := fun _ k => k.elim0)
    (X := start m) (Y := fun c => iprop(unscopedSems0 c ∗ argsAt m c)) (Z := fun _ => iprop(emp))
    (hX := start_intro m ρ) (hin := phi_first m) (hout := phi_last m)
    (QY := fun c s => (∀ sm : SemLoc sig, sm.isScoped .tc = false → s.sem ((c.tc : Thread nD τ), sm) = 0)
      ∧ s.mem ((c.tc : Thread nD τ).loc main_arg0) = m ((c.tc : Thread nD τ).loc main_arg0)
      ∧ s.mem ((c.tc : Thread nD τ).loc main_arg1) = m ((c.tc : Thread nD τ).loc main_arg1))
    (hY := end_read m)
    (hQ := fun s h hs => ⟨fun c => ⟨(h c).1 (0 : Fin 1), (h c).2.2.2⟩, sem_eq_zero hs fun c => (h c).2.2.1⟩)

end Cert.ScatterProof

end
-- ==== Proof.Value.lean ====
/-
# `Value`: what the result arrays hold, at the ideal values

There a change of format changes nothing and sums may be taken in any order. Each product a device sends is a row block of
its column block of `A` times its row block of `B`; a device's result adds the eight products computed for it, one by each
device; and the eight sums over 256 lanes are the one sum over 2048: the device's rows of the whole product.
-/
module

public import proofs.«01_k».proof.Proof.Run
public import Idealize.ShloMosaic.Lib.KernelVsHost
public import Idealize.ShloMosaic.Lib.StackMember
public import Idealize.ShloMosaic.Lib.Layout
public import Idealize.ShloMosaic.Lib.Pipeline.ValueKit.Acc
public import Idealize.ShloMosaic.Lib.Pipeline.ValueKit.Geometry

@[expose] public section

noncomputable section

namespace Cert.ScatterProof

open Cert.KernelIdeal Cert.KernelIdeal.Gen

open Idealize.ShloMosaic
open Idealize.ShloMosaic.TcCoe
open Idealize.ShloMosaic.Pipeline (Dat Cfg Window)
open Idealize.ShloMosaic.ValueIdx (ix2 eq_ix2)

/-! ## The result array is what the kernel stored -/

section Stored

variable {F : FTy → Type} [FloatOps F]
variable (m : (ℓ : Loc nD τ sig) → Buf (Elt F) ℓ)

/-- The window's one block is the whole array, so the array ends at what the kernel left in the staging buffer. -/
theorem finalOut_eq (c : Dev nD) : finalOut m c = outAt m c := by
  have hz : (fun a => (win0_0.index (0 : Fin 1)) a * main_v1.ty.shape.size a) = fun _ => 0 :=
    funext fun a => by fin_cases a <;> decide
  have hw : ∀ X Y : (main_v1 : Ref sig .tc).ty.Contents (Elt F),
      ((cfg0.win (0 : Fin 1)).blk (0 : Fin 1)).view.write (Elt F) X Y Finset.univ = Y :=
    fun X Y => Memref.write_access_unit_zero_univ (Elt F) main_v1 hz (fun a => by fin_cases a <;> decide) X Y
  unfold finalOut
  rw [show cfg0.N = ((0 : Fin 1) : Fin cfg0.N).val + 1 from rfl, (dats m 0 c).arrAt_succ (0 : Fin 1) (0 : Fin 1)]
  rw [show (cfg0.win (0 : Fin 1)).flush (0 : Fin 1) = true from by decide, if_pos rfl]
  exact hw _ _

end Stored

/-! ## The products -/

variable (m : (ℓ : Loc nD τ sig) → Buf (Elt Ideal) ℓ)

theorem row_lt (d : Dev nD) (i : Fin 64) : d.val * 64 + i.val < 512 := by
  have hd : d.val < 8 := d.isLt
  omega

/-- A device's block of `A`, its block of `B` and its result, as arrays of ideal values. -/
def aVec (s : Dev nD) : FVec Ideal S512x256 .f32 := aIn m s
def bVec (s : Dev nD) : FVec Ideal S256x512 .f32 := bIn m s
def outVec (c : Dev nD) : FVec Ideal S64x512 .f32 := outAt m c

/-- The element at row `i`, column `j` of the product device `s` computes for device `d`: row block `d` of its block of
    `A`, times its block of `B`. -/
def prod (s d : Dev nD) (i : Fin 64) (j : Fin 512) : EReal :=
  ∑ k : Fin 256, (aVec m s (ix2 ⟨d.val * 64 + i.val, row_lt d i⟩ k) : EReal) * (bVec m s (ix2 k j) : EReal)

/-- The kernel's product of 64 rows by the block of `B`, read at an index. -/
theorem pay3_apply (B : FVec Ideal S256x512 .f32) (X : FVec Ideal S64x256 .f32) (i : Fin 64) (j : Fin 512) :
    (k0_pay3 (F := Ideal) (k0_pay1 B) X : S64x512.Idx → EReal) (ix2 i j) = ∑ k : Fin 256, (X (ix2 i k) : EReal) * (B (ix2 k j) : EReal) := by
  unfold k0_pay3 k0_pay1
  dsimp only
  rw [shapeCast_self]
  show (matmul (DotDims.plain 64 256 512) none _ _ (constant S64x512 .f32 0x00000000#32) : FVec Ideal S64x512 .f32) (ix2 i j) = _
  rw [matmul_zero_eq_dotGeneral, StackMember.dotGeneral_plain_apply]
  rfl

/-- 64 rows of the block of `A` from row `64 d`, read at an index. -/
theorem rows_read (d : Dev nD) (o : Fin 2 → ℕ) (ho : o = ![64 * d.val, 0]) (inb : ∀ a, o a + S64x256.size a ≤ S512x256.size a)
    (X : (cc0_scratch0 : Ref sig .tc).ty.Contents (Elt Ideal)) (i : Fin 64) (k : Fin 256) :
    (aM.access (Rect.unit (s := S512x256) o S64x256.size inb)).read (Elt Ideal) X (ix2 i k)
      = X (ix2 ⟨d.val * 64 + i.val, row_lt d i⟩ k) := by
  subst ho
  show X _ = X _
  refine congrArg X (funext fun a => Fin.ext ?_)
  match a with
  | ⟨0, _⟩ => exact (ValueKit.rect_emb_unit_val _ _ _ _ _).trans (congrArg (· + i.val) (Nat.mul_comm 64 d.val))
  | ⟨1, _⟩ => exact (ValueKit.rect_emb_unit_val _ _ _ _ _).trans (Nat.zero_add k.val)

theorem off4_eq (c : Dev nD) : k0_off4 c = ![64 * c.val, 0] := by revert c; decide +kernel

theorem part_apply (s : Dev nD) (r : Fin 7) (i : Fin 64) (j : Fin 512) :
    (part m s r : S64x512.Idx → EReal) (ix2 i j) = prod m s (up s r) i j := by
  unfold part prod
  refine (pay3_apply _ _ i j).trans (Finset.sum_congr rfl fun k _ => ?_)
  exact congrArg (· * _) (rows_read (up s r) _ (off1_eq s r) _ _ i k)

theorem ownPart_apply (s : Dev nD) (i : Fin 64) (j : Fin 512) :
    (ownPart m s : S64x512.Idx → EReal) (ix2 i j) = prod m s s i j := by
  unfold ownPart prod
  refine (pay3_apply _ _ i j).trans (Finset.sum_congr rfl fun k _ => ?_)
  exact congrArg (· * _) (rows_read s _ (off4_eq s) _ _ i k)

/-! ## The sum over the devices -/

theorem dn_eq_up (c : Dev nD) (r : Fin 7) : dn c r = up c r.rev := by revert c r; decide +kernel

/-- A sum over the devices is the term at `c` and the terms at the seven behind it. -/
theorem sum_devices (c : Dev nD) (f : Dev nD → EReal) : ∑ s : Dev nD, f s = f c + ∑ r : Fin 7, f (dn c r) := by
  rw [← Equiv.sum_comp (around c), Fin.sum_univ_succ, around_zero]
  congr 1
  rw [← Equiv.sum_comp Fin.revPerm]
  exact Finset.sum_congr rfl fun r _ => by rw [around_succ, dn_eq_up]; rfl

/-- The result at an index: the products computed for `c` there, summed over the devices that computed them. -/
theorem outAt_apply (c : Dev nD) (i : Fin 64) (j : Fin 512) :
    (outVec m c : S64x512.Idx → EReal) (ix2 i j) = ∑ s : Dev nD, prod m s c i j := by
  have hp : ∀ r : Fin 7, (part m (dn c r) r : S64x512.Idx → EReal) (ix2 i j) = prod m (dn c r) c i j :=
    fun r => by rw [part_apply, up_dn]
  rw [sum_devices c, Fin.sum_univ_seven, ← ownPart_apply, ← hp 0, ← hp 1, ← hp 2, ← hp 3, ← hp 4, ← hp 5, ← hp 6]
  unfold outVec outAt k0_pay13 k0_pay12 k0_pay11 k0_pay10
  simp only [shapeCast_slab]
  show (ownPart m c (ix2 i j) + part m (dn c 0) 0 (ix2 i j) + part m (dn c 1) 1 (ix2 i j) + part m (dn c 2) 2 (ix2 i j)
    + part m (dn c 3) 3 (ix2 i j) + part m (dn c 4) 4 (ix2 i j) + part m (dn c 5) 5 (ix2 i j) + part m (dn c 6) 6 (ix2 i j) : EReal) = _
  simp only [add_assoc]

/-! ## The device's rows of the whole product -/

/-- With each device holding its column block of `A` and its row block of `B`, the products computed for device `c`, summed
    over the devices, are the product of the whole arrays at the device's rows. -/
theorem sum_prod (A : FVec Ideal ⟨2, ![512, 2048]⟩ .f32) (B : FVec Ideal ⟨2, ![2048, 512]⟩ .f32)
    (hA : ∀ s : Dev nD, aVec m s = Layout.block ⟨2, ![512, 256]⟩ ⟨2, ![512, 2048]⟩ 1 8 s A)
    (hB : ∀ s : Dev nD, bVec m s = Layout.block ⟨2, ![256, 512]⟩ ⟨2, ![2048, 512]⟩ 0 8 s B) (c : Dev nD) (i : Fin 64) (j : Fin 512) :
    ∑ s : Dev nD, prod m s c i j
      = Host.dotGeneral (DotDims.plain 512 2048 512) none A B (ix2 ⟨c.val * 64 + i.val, row_lt c i⟩ j) := by
  rw [StackMember.dotGeneral_plain_apply]
  refine Fin.sum_mul_add_congr (S := 8) (n := 256) fun s k hl => ?_
  rw [hA, hB]
  refine congrArg₂ (· * ·) (congrArg A ?_) (congrArg B ?_)
  · exact funext fun a => Fin.ext (by match a with | ⟨0, _⟩ => rfl | ⟨1, _⟩ => rfl)
  · exact funext fun a => Fin.ext (by match a with | ⟨0, _⟩ => rfl | ⟨1, _⟩ => rfl)

/-- Device `c`'s result is its row block of the product of the whole arrays. -/
theorem outVec_block (A : FVec Ideal ⟨2, ![512, 2048]⟩ .f32) (B : FVec Ideal ⟨2, ![2048, 512]⟩ .f32)
    (hA : ∀ s : Dev nD, aVec m s = Layout.block ⟨2, ![512, 256]⟩ ⟨2, ![512, 2048]⟩ 1 8 s A)
    (hB : ∀ s : Dev nD, bVec m s = Layout.block ⟨2, ![256, 512]⟩ ⟨2, ![2048, 512]⟩ 0 8 s B) (c : Dev nD) :
    outVec m c = Layout.block ⟨2, ![64, 512]⟩ ⟨2, ![512, 512]⟩ 0 8 c (Host.dotGeneral (DotDims.plain 512 2048 512) none A B) := by
  funext y
  rw [eq_ix2 y]
  refine (outAt_apply m c (y 0) (y 1)).trans ((sum_prod m A B hA hB c (y 0) (y 1)).trans ?_)
  exact congrArg (Host.dotGeneral (DotDims.plain 512 2048 512) none A B)
    (funext fun a => Fin.ext (by match a with | ⟨0, _⟩ => rfl | ⟨1, _⟩ => rfl))

end Cert.ScatterProof

end
-- ==== Proof.lean ====
/-
# The proof of `Cert.Claim`

The kernel and its idealization are one program text, so its run is written once, over any float values, in
`Proof/Protocol.lean` (the semaphores' schedule), `Proof/Steps.lean` (each kind of step), `Proof/Body.lean` (the kernel's
body), `Proof/Hold.lean` (the buffers' parts) and `Proof/Run.lean` (the launch). `Proof/Value.lean` reads the results at
the ideal values. Here the claims are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.ScatterProof

set_option maxRecDepth 65536 in
/-- The kernel's body table is its idealization's, -/
theorem defs₀_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => dsimp only; rfl
  | ⟨_ + 1, h⟩, _ => exact absurd h (Nat.not_lt.2 (Nat.le_add_left _ _))

/-- and so is the table with the pipeline's entries. -/
theorem defs_eq : Cert.Kernel.defs (F := Bits) = Cert.KernelIdeal.defs :=
  congrArg (Pipeline.defs Cert.KernelIdeal.pcfgs) defs₀_eq

/-- The kernel runs to the end on every device, its arguments unchanged and every semaphore counter at zero. -/
theorem frame_kernel : Cert.quiescent_Kernel := by
  intro m ρ _
  rw [defs_eq]
  exact (θ_run Cert.KernelIdeal.defs _ _).mono (fun _ h => ⟨fun c => (h.1 c).2, h.2⟩) (run_main (F := Bits) m ρ)

/-- So does its idealization, at the ideal values. -/
theorem frame_kernelIdeal : Cert.quiescent_KernelIdeal := fun m ρ _ =>
  (θ_run Cert.KernelIdeal.defs _ _).mono (fun _ h => ⟨fun c => (h.1 c).2, h.2⟩) (run_main (F := Ideal) m ρ)

/-- So does the reference. -/
theorem frame_referenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories where each device holds its column block of `A` and its row block of `B`, each device's result ends at
    its row block of the reference's `A @ B`, the arguments of both unchanged. -/
theorem algebraic : Cert.algebraic_KernelIdeal_ReferenceIdeal := by
  intro m ρ m' ρ' _ hagree
  refine ⟨Host.dotGeneral (F := Ideal) (φ₁ := .f32) (φ₂ := .f32) (DotDims.plain 512 2048 512) none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (run_main (F := Ideal) m ρ)
    exact (finalOut_eq m c).trans (outVec_block m _ _ (fun s => (hagree s).1) (fun s => (hagree s).2) c)
  · exact (θ_run Cert.ReferenceIdeal.defs _ _).mono (fun _ h => h 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
